-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256x128 : Shape := ⟨3, ![64, 256, 128]⟩
abbrev S64x257x129 : Shape := ⟨3, ![64, 257, 129]⟩
abbrev S64x8x128 : Shape := ⟨3, ![64, 8, 128]⟩
abbrev S64x8x129 : Shape := ⟨3, ![64, 8, 129]⟩
abbrev S2x8x64x128 : Shape := ⟨4, ![2, 8, 64, 128]⟩
abbrev S64x128 : Shape := ⟨2, ![64, 128]⟩
abbrev S1x8x64x128 : Shape := ⟨4, ![1, 8, 64, 128]⟩
abbrev S8x64x128 : Shape := ⟨3, ![8, 64, 128]⟩
abbrev S8x16x128 : Shape := ⟨3, ![8, 16, 128]⟩
abbrev S16x8x128 : Shape := ⟨3, ![16, 8, 128]⟩
abbrev S64x8x1 : Shape := ⟨3, ![64, 8, 1]⟩
abbrev S16x1 : Shape := ⟨2, ![16, 1]⟩
abbrev S16x128 : Shape := ⟨2, ![16, 128]⟩
abbrev S16x127 : Shape := ⟨2, ![16, 127]⟩
abbrev S1x1x16x128 : Shape := ⟨4, ![1, 1, 16, 128]⟩
abbrev S1x16x128 : Shape := ⟨3, ![1, 16, 128]⟩
abbrev S1x64x128 : Shape := ⟨3, ![1, 64, 128]⟩

abbrev nBuf : Space → Nat
  | .hbm => 2
  | .vmem => 7
  | .smem => 0
  | _ => 0

abbrev bufTy : (tb : Table) → Fin (tcTables nBuf tb) → BufTy
  | .hbm, ⟨0, _⟩ => ⟨S64x256x128, .f32⟩
  | .hbm, ⟨1, _⟩ => ⟨S64x257x129, .f32⟩
  | .local _ .vmem, ⟨0, _⟩ => ⟨S64x8x128, .f32⟩
  | .local _ .vmem, ⟨1, _⟩ => ⟨S64x8x128, .f32⟩
  | .local _ .vmem, ⟨2, _⟩ => ⟨S64x8x129, .f32⟩
  | .local _ .vmem, ⟨3, _⟩ => ⟨S64x8x129, .f32⟩
  | .local _ .vmem, ⟨4, _⟩ => ⟨S2x8x64x128, .f32⟩
  | .local _ .vmem, ⟨5, _⟩ => ⟨S64x128, .f32⟩
  | .local _ .vmem, ⟨6, _⟩ => ⟨S64x128, .f32⟩
  | _, _ => ⟨S64x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![34], ![false]⟩

def k0_off1 (i : grid0.Coords) : Fin 4 → Nat :=
  let arg0 : BitVec 32 := BitVec.ofNat 32 (i 0).val
  let c1_i32 : BitVec 32 := 1#32
  let v1 : BitVec 32 := Scalar.subi arg0 c1_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let c0_i32_2 : BitVec 32 := 0#32
  let v5 : BitVec 1 := Scalar.cmpi .ne v4 c0_i32_2
  let v9 : BitVec 1 := Scalar.andi v8 v5
  let v10 : BitVec 32 := Scalar.addi v4 v3
  let v11 : BitVec 32 := Scalar.select v9 v10 v4
  let v22 : Index := Scalar.indexCast v11
  let c0 : Index := 0#32
  let c0_11 : Index := 0#32
  let c0_12 : Index := 0#32
  ![v22.toNat, 0, 0, 0]
def k0_off2 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v74 : Index := Scalar.indexCast v21
  let c0_42 : Index := 0#32
  let c0_43 : Index := 0#32
  let c0_44 : Index := 0#32
  ![v74.toNat, 0, 0, 0]
def k0_off3 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v98 : Index := Scalar.indexCast v21
  let c0_53 : Index := 0#32
  let c16_54 : Index := 16#32
  let c0_55 : Index := 0#32
  ![v98.toNat, 0, 16, 0]
def k0_off4 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v122 : Index := Scalar.indexCast v21
  let c0_64 : Index := 0#32
  let c32_65 : Index := 32#32
  let c0_66 : Index := 0#32
  ![v122.toNat, 0, 32, 0]
def k0_off5 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v146 : Index := Scalar.indexCast v21
  let c0_75 : Index := 0#32
  let c48_76 : Index := 48#32
  let c0_77 : Index := 0#32
  ![v146.toNat, 0, 48, 0]
def k0_off6 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v171 : Index := Scalar.indexCast v21
  let c1_82 : Index := 1#32
  let c0_83 : Index := 0#32
  let c0_84 : Index := 0#32
  ![v171.toNat, 1, 0, 0]
def k0_off7 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v194 : Index := Scalar.indexCast v21
  let c1_89 : Index := 1#32
  let c16_90 : Index := 16#32
  let c0_91 : Index := 0#32
  ![v194.toNat, 1, 16, 0]
def k0_off8 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v217 : Index := Scalar.indexCast v21
  let c1_96 : Index := 1#32
  let c32_97 : Index := 32#32
  let c0_98 : Index := 0#32
  ![v217.toNat, 1, 32, 0]
def k0_off9 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v240 : Index := Scalar.indexCast v21
  let c1_103 : Index := 1#32
  let c48_104 : Index := 48#32
  let c0_105 : Index := 0#32
  ![v240.toNat, 1, 48, 0]
def k0_off10 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v265 : Index := Scalar.indexCast v21
  let c2 : Index := 2#32
  let c0_110 : Index := 0#32
  let c0_111 : Index := 0#32
  ![v265.toNat, 2, 0, 0]
def k0_off11 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v288 : Index := Scalar.indexCast v21
  let c2_116 : Index := 2#32
  let c16_117 : Index := 16#32
  let c0_118 : Index := 0#32
  ![v288.toNat, 2, 16, 0]
def k0_off12 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v311 : Index := Scalar.indexCast v21
  let c2_123 : Index := 2#32
  let c32_124 : Index := 32#32
  let c0_125 : Index := 0#32
  ![v311.toNat, 2, 32, 0]
def k0_off13 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v334 : Index := Scalar.indexCast v21
  let c2_130 : Index := 2#32
  let c48_131 : Index := 48#32
  let c0_132 : Index := 0#32
  ![v334.toNat, 2, 48, 0]
def k0_off14 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v359 : Index := Scalar.indexCast v21
  let c3 : Index := 3#32
  let c0_138 : Index := 0#32
  let c0_139 : Index := 0#32
  ![v359.toNat, 3, 0, 0]
def k0_off15 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v382 : Index := Scalar.indexCast v21
  let c3_144 : Index := 3#32
  let c16_145 : Index := 16#32
  let c0_146 : Index := 0#32
  ![v382.toNat, 3, 16, 0]
def k0_off16 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v405 : Index := Scalar.indexCast v21
  let c3_151 : Index := 3#32
  let c32_152 : Index := 32#32
  let c0_153 : Index := 0#32
  ![v405.toNat, 3, 32, 0]
def k0_off17 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v428 : Index := Scalar.indexCast v21
  let c3_158 : Index := 3#32
  let c48_159 : Index := 48#32
  let c0_160 : Index := 0#32
  ![v428.toNat, 3, 48, 0]
def k0_off18 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v453 : Index := Scalar.indexCast v21
  let c4 : Index := 4#32
  let c0_166 : Index := 0#32
  let c0_167 : Index := 0#32
  ![v453.toNat, 4, 0, 0]
def k0_off19 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v476 : Index := Scalar.indexCast v21
  let c4_172 : Index := 4#32
  let c16_173 : Index := 16#32
  let c0_174 : Index := 0#32
  ![v476.toNat, 4, 16, 0]
def k0_off20 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v499 : Index := Scalar.indexCast v21
  let c4_179 : Index := 4#32
  let c32_180 : Index := 32#32
  let c0_181 : Index := 0#32
  ![v499.toNat, 4, 32, 0]
def k0_off21 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v522 : Index := Scalar.indexCast v21
  let c4_186 : Index := 4#32
  let c48_187 : Index := 48#32
  let c0_188 : Index := 0#32
  ![v522.toNat, 4, 48, 0]
def k0_off22 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v547 : Index := Scalar.indexCast v21
  let c5 : Index := 5#32
  let c0_194 : Index := 0#32
  let c0_195 : Index := 0#32
  ![v547.toNat, 5, 0, 0]
def k0_off23 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v570 : Index := Scalar.indexCast v21
  let c5_200 : Index := 5#32
  let c16_201 : Index := 16#32
  let c0_202 : Index := 0#32
  ![v570.toNat, 5, 16, 0]
def k0_off24 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v593 : Index := Scalar.indexCast v21
  let c5_207 : Index := 5#32
  let c32_208 : Index := 32#32
  let c0_209 : Index := 0#32
  ![v593.toNat, 5, 32, 0]
def k0_off25 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v616 : Index := Scalar.indexCast v21
  let c5_214 : Index := 5#32
  let c48_215 : Index := 48#32
  let c0_216 : Index := 0#32
  ![v616.toNat, 5, 48, 0]
def k0_off26 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v641 : Index := Scalar.indexCast v21
  let c6 : Index := 6#32
  let c0_222 : Index := 0#32
  let c0_223 : Index := 0#32
  ![v641.toNat, 6, 0, 0]
def k0_off27 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v664 : Index := Scalar.indexCast v21
  let c6_228 : Index := 6#32
  let c16_229 : Index := 16#32
  let c0_230 : Index := 0#32
  ![v664.toNat, 6, 16, 0]
def k0_off28 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v687 : Index := Scalar.indexCast v21
  let c6_235 : Index := 6#32
  let c32_236 : Index := 32#32
  let c0_237 : Index := 0#32
  ![v687.toNat, 6, 32, 0]
def k0_off29 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v710 : Index := Scalar.indexCast v21
  let c6_242 : Index := 6#32
  let c48_243 : Index := 48#32
  let c0_244 : Index := 0#32
  ![v710.toNat, 6, 48, 0]
def k0_off30 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v735 : Index := Scalar.indexCast v21
  let c7 : Index := 7#32
  let c0_250 : Index := 0#32
  let c0_251 : Index := 0#32
  ![v735.toNat, 7, 0, 0]
def k0_off31 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v758 : Index := Scalar.indexCast v21
  let c7_256 : Index := 7#32
  let c16_257 : Index := 16#32
  let c0_258 : Index := 0#32
  ![v758.toNat, 7, 16, 0]
def k0_off32 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v781 : Index := Scalar.indexCast v21
  let c7_263 : Index := 7#32
  let c32_264 : Index := 32#32
  let c0_265 : Index := 0#32
  ![v781.toNat, 7, 32, 0]
def k0_off33 (i : grid0.Coords) : Fin 4 → Nat :=
  let arg0 : BitVec 32 := BitVec.ofNat 32 (i 0).val
  let c2_i32_5 : BitVec 32 := 2#32
  let c0_i32_6 : BitVec 32 := 0#32
  let v12 : BitVec 1 := Scalar.cmpi .eq c2_i32_5 c0_i32_6
  let c1_i32_7 : BitVec 32 := 1#32
  let v13 : BitVec 32 := Scalar.select v12 c1_i32_7 c2_i32_5
  let v14 : BitVec 32 := Scalar.remsi arg0 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let v804 : Index := Scalar.indexCast v21
  let c7_270 : Index := 7#32
  let c48_271 : Index := 48#32
  let c0_272 : Index := 0#32
  ![v804.toNat, 7, 48, 0]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S64x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x129 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S64x256x128 : Shape := ⟨3, ![64, 256, 128]⟩
abbrev S_ : Shape := ⟨0, ![]⟩
abbrev S64x257x129 : Shape := ⟨3, ![64, 257, 129]⟩
abbrev S1 : Shape := ⟨1, ![1]⟩
abbrev S2 : Shape := ⟨1, ![2]⟩
abbrev S64 : Shape := ⟨1, ![64]⟩

abbrev nBuf : Space → Nat
  | .hbm => 47
  | .vmem => 0
  | .smem => 0
  | _ => 0

abbrev bufTy : (tb : Table) → Fin (tcTables nBuf tb) → BufTy
  | .hbm, ⟨0, _⟩ => ⟨S64x256x128, .f32⟩
  | .hbm, ⟨1, _⟩ => ⟨S_, .f32⟩
  | .hbm, ⟨2, _⟩ => ⟨S64x257x129, .f32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S2, .i32⟩
  | .hbm, ⟨8, _⟩ => ⟨S_, .f32⟩
  | .hbm, ⟨9, _⟩ => ⟨S64, .f32⟩
  | .hbm, ⟨10, _⟩ => ⟨S64x257x129, .f32⟩
  | .hbm, ⟨11, _⟩ => ⟨S_, .f32⟩
  | .hbm, ⟨12, _⟩ => ⟨S64x256x128, .f32⟩
  | .hbm, ⟨13, _⟩ => ⟨S64x256x128, .f32⟩
  | .hbm, ⟨14, _⟩ => ⟨S_, .i32⟩
  | .hbm, ⟨15, _⟩ => ⟨S64x256x128, .f32⟩
  | .hbm, ⟨16, _⟩ => ⟨S_, .i32⟩
  | .hbm, ⟨17, _⟩ => ⟨S64x257x129, .f32⟩
  | .hbm, ⟨18, _⟩ => ⟨S_, .i32⟩
  | .hbm, ⟨19, _⟩ => ⟨S_, .i1⟩
  | .hbm, ⟨20, _⟩ => ⟨S64x256x128, .f32⟩
  | .hbm, ⟨21, _⟩ => ⟨S64x256x128, .f32⟩
  | .hbm, ⟨22, _⟩ => ⟨S64x256x128, .f32⟩
  | .hbm, ⟨23, _⟩ => ⟨S64x256x128, .f32⟩
  | .hbm, ⟨24, _⟩ => ⟨S64x256x128, .f32⟩
  | .hbm, ⟨25, _⟩ => ⟨S64x256x128, .f32⟩
  | .hbm, ⟨26, _⟩ => ⟨S64x256x128, .i1⟩
  | .hbm, ⟨27, _⟩ => ⟨S64x256x128, .f32⟩
  | .hbm, ⟨28, _⟩ => ⟨S64x256x128, .f32⟩
  | .hbm, ⟨29, _⟩ => ⟨S64x256x128, .f32⟩
  | .hbm, ⟨30, _⟩ => ⟨S64x256x128, .f32⟩
  | .hbm, ⟨31, _⟩ => ⟨S64x256x128, .f32⟩
  | .hbm, ⟨32, _⟩ => ⟨S64x256x128, .f32⟩
  | .hbm, ⟨33, _⟩ => ⟨S64x256x128, .f32⟩
  | .hbm, ⟨34, _⟩ => ⟨S_, .f32⟩
  | .hbm, ⟨35, _⟩ => ⟨S_, .f32⟩
  | .hbm, ⟨36, _⟩ => ⟨S64x257x129, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S_, .f32⟩
  | .hbm, ⟨43, _⟩ => ⟨S64, .f32⟩
  | .hbm, ⟨44, _⟩ => ⟨S64x257x129, .f32⟩
  | .hbm, ⟨45, _⟩ => ⟨S_, .i32⟩
  | .hbm, ⟨46, _⟩ => ⟨S_, .i32⟩
  | _, _ => ⟨S64x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_while0c_c_6 : Ref sig .tc := ⟨.hbm, 18, rfl⟩
abbrev main_while0c_v9 : Ref sig .tc := ⟨.hbm, 19, rfl⟩
abbrev main_while0b_v9 : Ref sig .tc := ⟨.hbm, 20, rfl⟩
abbrev main_while0b_v10 : Ref sig .tc := ⟨.hbm, 21, rfl⟩
abbrev main_while0b_v11 : Ref sig .tc := ⟨.hbm, 22, rfl⟩
abbrev main_while0b_v12 : Ref sig .tc := ⟨.hbm, 23, rfl⟩
abbrev main_while0b_v13 : Ref sig .tc := ⟨.hbm, 24, rfl⟩
abbrev main_while0b_v14 : Ref sig .tc := ⟨.hbm, 25, rfl⟩
abbrev main_while0b_v15 : Ref sig .tc := ⟨.hbm, 26, rfl⟩
abbrev main_while0b_v16 : Ref sig .tc := ⟨.hbm, 27, rfl⟩
abbrev main_while0b_v17 : Ref sig .tc := ⟨.hbm, 28, rfl⟩
abbrev main_while0b_v18 : Ref sig .tc := ⟨.hbm, 29, rfl⟩
abbrev main_while0b_v19 : Ref sig .tc := ⟨.hbm, 30, rfl⟩
abbrev main_while0b_v20 : Ref sig .tc := ⟨.hbm, 31, rfl⟩
abbrev main_while0b_v21 : Ref sig .tc := ⟨.hbm, 32, rfl⟩
abbrev main_while0b_v22 : Ref sig .tc := ⟨.hbm, 33, rfl⟩
abbrev main_while0b_cst_6 : Ref sig .tc := ⟨.hbm, 34, rfl⟩
abbrev main_while0b_call0_v0 : Ref sig .tc := ⟨.hbm, 35, rfl⟩
abbrev main_while0b_v23 : Ref sig .tc := ⟨.hbm, 36, rfl⟩
abbrev main_while0b_c_7 : Ref sig .tc := ⟨.hbm, 37, rfl⟩
abbrev main_while0b_v24 : Ref sig .tc := ⟨.hbm, 38, rfl⟩
abbrev main_while0b_c_8 : Ref sig .tc := ⟨.hbm, 39, rfl⟩
abbrev main_while0b_v25 : Ref sig .tc := ⟨.hbm, 40, rfl⟩
abbrev main_while0b_v26 : Ref sig .tc := ⟨.hbm, 41, rfl⟩
abbrev main_while0b_cst_9 : Ref sig .tc := ⟨.hbm, 42, rfl⟩
abbrev main_while0b_v27 : Ref sig .tc := ⟨.hbm, 43, rfl⟩
abbrev main_while0b_v28 : Ref sig .tc := ⟨.hbm, 44, rfl⟩
abbrev main_while0b_c_10 : Ref sig .tc := ⟨.hbm, 45, rfl⟩
abbrev main_while0b_v29 : Ref sig .tc := ⟨.hbm, 46, rfl⟩

abbrev nD : Nat := 1
abbrev τ : Topo := Topo.v7x

variable {F : FTy → Type} [FloatOps F]

abbrev main_while0_count : Scf.Loop 32 := ⟨0#32, 383#32, 1#32⟩
-- ==== Proof.Run.lean ====
/-
  The body of the kernel, run once at symbolic contents.

  `kernelRun` says that the body, called with the input block's buffer at `f1` and the three scratch buffers at `f3`, `f4`, `f5`
  (the output block's buffer at anything), terminates with the input block unchanged; its first component is what the other four
  buffers hold then, as the run of the body found it. The body's branches on the grid point are selections between values, so
  that one run serves every point.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The same, held on the view's own elements, as a window's staging buffer is handed to the body. -/
abbrev ptv (c : Dev nD) {sp : Space} {S : Shape} {e : EltTy} (M : Memref sig .tc sp S e) (f : Bf (F := F) c M) : sProp 𝕄 :=
  M.view.loc (c : Thread nD τ) ↦[M.view.set]{fullShare} f

set_option sl_exec.resultNames true in
/-- The body's run: what it leaves in the output block and in the three scratch buffers, and that it does. -/
noncomputable def kernelRun (c : Dev nD) (i : grid0.Coords)
    (M1 : Memref sig .tc .vmem S64x8x128 .f32) (h1 : M1.IsWhole) (M2 : Memref sig .tc .vmem S64x8x129 .f32) (h2 : M2.IsWhole)
    (M3 : Memref sig .tc .vmem S2x8x64x128 .f32) (h3 : M3.IsWhole) (M4 : Memref sig .tc .vmem S64x128 .f32) (h4 : M4.IsWhole)
    (M5 : Memref sig .tc .vmem S64x128 .f32) (h5 : M5.IsWhole)
    (f1 : Bf (F := F) c M1) (f3 : Bf (F := F) c M3) (f4 : Bf (F := F) c M4) (f5 : Bf (F := F) c M5) :
    { W : Bf (F := F) c M2 × Bf (F := F) c M3 × Bf (F := F) c M4 × Bf (F := F) c M5 //
      ∀ (f2 : Bf (F := F) c M2) (E : Set ℕ) (Q : PUnit → sProp 𝕄),
        iprop(ptv c M1 f1 ∗ ptv c M2 f2 ∗ pt c M3 f3 ∗ pt c M4 f4 ∗ pt c M5 f5
          ∗ (iprop(ptv c M1 f1 ∗ ptv c M2 W.1 ∗ pt c M3 W.2.1 ∗ pt c M4 W.2.2.1 ∗ pt c M5 W.2.2.2) -∗ Q ⟨⟩))
        ⊢ wp frame (wpE (defs₀ (F := F)) Variants.none c none) E
            (cc0__dp_kernel i M1 h1 M2 h2 M3 h3 M4 h4 M5 h5) Q } := by
  refine ⟨⟨?_, ?_, ?_, ?_⟩, fun f2 E Q => ?run⟩
  case run =>
    iintro ⟨H1, H2, H3, H4, H5, Hk⟩
    sl_exec_parts!
    sl_step
    iapply Hk
    isplitl [H1]; · iexact H1
    isplitl [H2]; · iexact H2
    isplitl [H3]; · iexact H3
    isplitl [H4]; · iexact H4
    iexact H5

end Cert.KernelIdeal.Hand

end
-- ==== Proof.Launch.lean ====
/-
  The launch: 34 points, the body at each, the scratch carried from point to point under an invariant of the caller's choosing.

  The body's run at one point (Run.lean) is put under the library's launch theorem for relational proof data. What the launch
  says is left to two predicates: `Inv c n f3 f4 f5`, of the three scratch buffers before point `n ≥ 1`, and `Rl c t X`, of the
  output block that the body leaves at point `t`. `Step` is the one thing to be shown of them; `run_main` is the launch.
-/
module

public import proofs.«01_k».proof.Proof.Run
public import Idealize.ShloMosaic.Lib.Pipeline.DatRel
public import Idealize.ShloMosaic.Lib.Pipeline.ArrRel
public import Idealize.ShloMosaic.Lib.Pipeline.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The operands the body is handed -/

/-- The two windows' staging buffers at point `t`, and the three scratch buffers whole. -/
abbrev ms0 (t : Fin cfg0.N) : Memref sig .tc .vmem S64x8x128 .f32 := win0_0.stage (cfg0.slots t 0)
abbrev ms1 (t : Fin cfg0.N) : Memref sig .tc .vmem S64x8x129 .f32 := win0_1.stage (cfg0.slots t 1)
abbrev sc0 : Memref sig .tc .vmem S2x8x64x128 .f32 := Memref.whole cc0_scratch0
abbrev sc1 : Memref sig .tc .vmem S64x128 .f32 := Memref.whole cc0_scratch1
abbrev sc2 : Memref sig .tc .vmem S64x128 .f32 := Memref.whole cc0_scratch2

/-- The body's run at point `t`, from the input block's buffer at `f1` and the scratch at `f3`, `f4`, `f5`. -/
abbrev runAt (c : Dev nD) (t : Fin cfg0.N) (f1 : Bf (F := F) c (ms0 t)) (f3 : Bf (F := F) c sc0) (f4 : Bf (F := F) c sc1)
    (f5 : Bf (F := F) c sc2) :=
  kernelRun (F := F) c (grid0.coords t) (ms0 t) (hstage0_0 (cfg0.slots t 0)) (ms1 t) (hstage0_1 (cfg0.slots t 1))
    sc0 (Memref.isWhole_whole _) sc1 (Memref.isWhole_whole _) sc2 (Memref.isWhole_whole _) f1 f3 f4 f5

variable (Inv : (c : Dev nD) → ℕ → Bf (F := F) c sc0 → Bf (F := F) c sc1 → Bf (F := F) c sc2 → Prop)
  (Rl : (c : Dev nD) → Fin cfg0.N → (S64x8x129.Idx → Elt F .f32) → Prop)

/-- One point keeps the invariant and leaves an output block that meets `Rl`. Nothing is assumed before point 0. -/
def Step : Prop :=
  ∀ (c : Dev nD) (t : Fin cfg0.N) (f1 : Bf (F := F) c (ms0 t)) (f3 : Bf (F := F) c sc0) (f4 : Bf (F := F) c sc1) (f5 : Bf (F := F) c sc2),
    (ms0 t).view.read (Elt F) f1 = iblk m c 0 t → (t.val ≠ 0 → Inv c t.val f3 f4 f5) →
      Inv c (t.val + 1) (runAt c t f1 f3 f4 f5).1.2.1 (runAt c t f1 f3 f4 f5).1.2.2.1 (runAt c t f1 f3 f4 f5).1.2.2.2
        ∧ Rl c t ((ms1 t).view.read (Elt F) (runAt c t f1 f3 f4 f5).1.1)

/-! ## The proof data -/

/-- What holds between points: the scratch at contents that meet `Inv` (at anything before point 0), the generator register. -/
def Phi (c : Dev nD) (t : Fin (cfg0.N + 1)) : sProp 𝕄 :=
  iprop((∃ f3 : Bf (F := F) c sc0, ∃ f4 : Bf (F := F) c sc1, ∃ f5 : Bf (F := F) c sc2,
      ⌜t.val ≠ 0 → Inv c t.val f3 f4 f5⌝ ∗ pt c sc0 f3 ∗ pt c sc1 f4 ∗ pt c sc2 f5) ∗ (∃ r, prngReg c r))

/-- The proof data on core `c`: the arrays as launched, the input block left in place, the output block unnamed. -/
def dat (c : Dev nD) : Dat τ (Elt F) Unit ℕ (UR sig nD τ) ℕ cfg0 c where
  A w := V m c (Pipeline.arrRef spec0 w)
  after w t := match w with
    | ⟨0, _⟩ => iblk m c 0 t
    | w => Pipeline.Dat.unnamed (cfg := cfg0) w t
  Φ t := Phi Inv c t
  q _ := fullShare
  owed _ := 0

/-- The output window alone is held to a predicate. -/
def marked : Fin cfg0.W → Bool := fun | 0 => false | 1 => true | ⟨_ + 2, h⟩ => absurd h (Nat.not_lt.2 (Nat.le_add_left _ _))

/-- The predicate, window by window. -/
def RlW (c : Dev nD) : (w : Fin cfg0.W) → Fin cfg0.N → ((cfg0.win w).block.Idx → Elt F (cfg0.win w).elt) → Prop :=
  fun | 0 => fun _ _ => True | 1 => fun t X => Rl c t X | ⟨_ + 2, h⟩ => absurd h (Nat.not_lt.2 (Nat.le_add_left _ _))

/-- The relational data: the output held to `Rl`. -/
abbrev rdat (c : Dev nD) : RDat τ (Elt F) Unit ℕ (UR sig nD τ) ℕ cfg0 c := (dat m Inv c).toRRel marked (RlW Rl c)

theorem A_eq (c : Dev nD) (w : Fin cfg0.W) : (dat m Inv c).A w = V m c (Pipeline.arrRef spec0 w) := by dsimp only [dat]

theorem before_0 (c : Dev nD) (t : Fin cfg0.N) (d) : (dat m Inv c).before 0 t d = iblk m c 0 t :=
  before0_0_of m (dat m Inv c) (A_eq m Inv c 0) (fun _ => rfl) t d

/-! ## The body at a point -/

/-- What the body is called with at point `t`, and what it returns. -/
def bodyPre (c : Dev nD) (t : Fin cfg0.N) : sProp 𝕄 :=
  iprop((dat m Inv c).Φ t.castSucc ∗ (dat m Inv c).owesAt () t.castSucc
    ∗ (∃ d, owns (c : Thread nD τ) (ms0 t) fullShare ((dat m Inv c).before 0 t d))
    ∗ (∃ Y, ⌜(rdat m Inv Rl c).Finds 1 t Y⌝ ∗ owns (c : Thread nD τ) (ms1 t) fullShare Y))
def bodyPost (c : Dev nD) (t : Fin cfg0.N) : sProp 𝕄 :=
  iprop((dat m Inv c).Φ t.succ ∗ (dat m Inv c).owesAt () t.succ
    ∗ owns (c : Thread nD τ) (ms0 t) fullShare ((dat m Inv c).after 0 t)
    ∗ (∃ X, ⌜RlW Rl c 1 t X⌝ ∗ owns (c : Thread nD τ) (ms1 t) fullShare X))

variable {m Inv Rl}

/-- The body's triple at point `t`. -/
theorem sound_body (hs : Step m Inv Rl) (c : Dev nD) (t : Fin cfg0.N) :
    bodyPre m Inv Rl c t ⊢ wp frame (wpE (defs₀ (F := F)) Variants.none c none) Set.univ (bodyAt0 t) (fun _ => bodyPost m Inv Rl c t) := by
  unfold bodyPre bodyPost bodyAt0
  rw [show (dat m Inv c).owesAt () t.succ = (dat m Inv c).owesAt () t.castSucc from rfl,
    show (dat m Inv c).Φ t.succ = Phi Inv c t.succ from rfl, show (dat m Inv c).Φ t.castSucc = Phi Inv c t.castSucc from rfl]
  simp only [before_0]
  rw [show (dat m Inv c).after 0 t = iblk m c 0 t from rfl]
  unfold Phi owns
  iintro ⟨⟨⟨%f3, %f4, %f5, %hI, H3, H4, H5⟩, Hg⟩, HO, ⟨%d, %f1, %hf1, H1⟩, ⟨%Y, -, %f2, -, H2⟩⟩
  have hI' : t.val ≠ 0 → Inv c t.val f3 f4 f5 := hI
  have hS := hs c t f1 f3 f4 f5 hf1 hI'
  iapply ((runAt c t f1 f3 f4 f5).2 f2 Set.univ _)
  isplitl [H1]; · iexact H1
  isplitl [H2]; · iexact H2
  isplitl [H3]; · iexact H3
  isplitl [H4]; · iexact H4
  isplitl [H5]; · iexact H5
  iintro ⟨H1, H2, H3, H4, H5⟩
  isplitl [H3 H4 H5 Hg]
  · isplitl [H3 H4 H5]
    · iexists _, _, _
      isplitr
      swap
      · isplitl [H3]; · iexact H3
        isplitl [H4]; · iexact H4
        iexact H5
      · ipureintro
        exact fun _ => hS.1
    · iexact Hg
  isplitl [HO]; · iexact HO
  isplitl [H1]
  · iexists f1; isplitr; swap; · iexact H1
    ipureintro; exact hf1
  · iexists _
    isplitr
    swap
    · iexists _; isplitr; swap; · iexact H2
      ipureintro; rfl
    · ipureintro; exact hS.2

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (hs : Step m Inv Rl) (c : Dev nD) :
    BodyObligationRel (dat m Inv c) (defs₀ (F := F)) Variants.none () Set.univ marked (RlW Rl c) := fun t => by
  rw [bigSep_W0, bigSep_W0, defs₀_row]
  exact triple_restated (sound_body hs c t) rfl .rfl fun _ => .rfl

/-! ## The launch -/

theorem Phi_in (c : Dev nD) : Pipeline.ΦA (Val := Elt F) (U := UR sig nD τ) spec0 c ⊢ Phi Inv c 0 := by
  unfold Phi Pipeline.ΦA
  rw [scopedRest0_eq]
  iintro ⟨⟨⟨%f3, H3⟩, ⟨%f4, H4⟩, ⟨%f5, H5⟩⟩, Hg⟩
  isplitl [H3 H4 H5]
  · iexists f3, f4, f5
    isplitr
    · ipureintro; exact fun h => absurd rfl h
    isplitl [H3]; · iexact H3
    isplitl [H4]; · iexact H4
    iexact H5
  · iexact Hg

theorem Phi_out (c : Dev nD) (t : Fin (cfg0.N + 1)) : Phi Inv c t ⊢ Pipeline.ΦA (Val := Elt F) (U := UR sig nD τ) spec0 c := by
  unfold Phi Pipeline.ΦA
  rw [scopedRest0_eq]
  iintro ⟨⟨%f3, %f4, %f5, -, H3, H4, H5⟩, Hg⟩
  isplitl [H3 H4 H5]
  · isplitl [H3]; · iexists f3; iexact H3
    isplitl [H4]; · iexists f4; iexact H4
    iexists f5; iexact H5
  · iexact Hg

-- the launch theorem's implicit arguments are found by unifying its conclusion with this statement, which unifies only when
-- unification may unfold plain definitions in a metavariable's type
set_option backward.isDefEq.respectTransparency.types false in
/-- From any memory with zero counters every weakly fair execution terminates; at the end each window's array holds what the
    relational data allow, and every semaphore counter reads zero. -/
theorem run_main (hs : Step m Inv Rl) :
    θ_run defs (onTc (τ := τ) (main (F := F))) (s₀ m ρ)
      (fun r => RDat.FramePost (cfgs 0) (fun c => rdat m Inv Rl c) (V m) r ∧ r.2.sem = fun _ => 0) :=
  RDat.θ_run_frame_track cfgs (0 : Fin 1) launch0 defs₀ Variants.none (fun c => rdat m Inv Rl c) m ρ main
    (hbody := fun c => (body_obligation hs c).toRRel) (hshare := fun c => (dat m Inv c).share_full fun _ => rfl)
    (howed := fun _ _ => rfl) (V := V m) (hmain := hmain m Variants.none) (hA := A_eq m Inv)
    (hin := fun c => Phi_in c) (hout := fun c => Phi_out c _) (Q' := _) (hQ' := fun _ h => h)

variable {ρ}

/-- After the run the argument holds what it held at launch. -/
theorem final_arg0 {r : PUnit × MemSt nD τ sig (Elt F)} (h : RDat.FramePost (cfgs 0) (fun c => rdat m Inv Rl c) (V m) r) (c : Dev nD) :
    r.2.mem ((c : Thread nD τ).loc main_arg0) = m ((c : Thread nD τ).loc main_arg0) :=
  (cast (congrFun ((rdat m Inv Rl c).ArrAt_in 0 rfl _) _) ((h c).1 0))

end Cert.KernelIdeal.Hand

end
-- ==== Proof.Spec.lean ====
/-
  The mathematics alone, over the extended reals: the recurrence that both programs compute, one entry of it, and the sweeps.

  The recurrence: row 0 is 0 in column 0 and -1e20 elsewhere; column 0 is -1e20 below row 0; and for i, j ≥ 0
      T (i+1) (j+1) = logaddexp (T i (j+1) + w i j) (T i j + w i j).
  The kernel takes the weight out of the logaddexp and writes the rest to base 2 (`kerStep`); `kerStep_eq` says that this is the
  same extended real whatever the three numbers are. The reference sweeps the whole table again and again (`Sweep`);
  `sweep_iter` says that after k sweeps the rows up to k are the recurrence's.
-/
module

public import Idealize.ShloMosaic.PureOps.Ideal
public import Idealize.ShloMosaic.Lib.IdealHost
public import Idealize.ShloMosaic.Lib.ValueIdxCore

@[expose] public section

noncomputable section

namespace Cert.Spec

open Idealize.ShloMosaic Idealize.ShloMosaic.ValueIdx

/-- The three literals: -1e20, 0 and 1.5. -/
def neg : EReal := Ideal.ofBits .f32 0xE0AD78EC#32
def zro : EReal := Ideal.ofBits .f32 0x00000000#32
def alpha : EReal := Ideal.ofBits .f32 0x3FC00000#32

/-- `logaddexp`, as jax writes it away from the unordered case. -/
def lae (x y : EReal) : EReal := max x y + Ideal.log1p (Ideal.exp (-(max (x - y) (-(x - y)))))

/-- The kernel's step on one entry: `a` above, `b` above and to the left, `aw` the weight. -/
def kerStep (a b aw : EReal) : EReal :=
  aw + (max a b + ((Real.log 2 : ℝ) : EReal)
    * (Ideal.log (1 + Ideal.exp2 (max (a - b) (-(a - b)) * ((-(Real.log 2)⁻¹ : ℝ) : EReal))) * (((Real.log 2)⁻¹ : ℝ) : EReal)))

/-! ## The step is the logaddexp -/

theorem log2_ne : Real.log 2 ≠ 0 := (Real.log_pos (by norm_num)).ne'

/-- A factor and its inverse around a real value cancel. -/
theorem ln2_cancel (r : ℝ) : ((Real.log 2 : ℝ) : EReal) * (((r : ℝ) : EReal) * (((Real.log 2)⁻¹ : ℝ) : EReal)) = (r : EReal) := by
  rw [← EReal.coe_mul, ← EReal.coe_mul]
  congr 1
  field_simp [log2_ne]

/-- The gap term: `log1p (exp (-|d|))` is `ln 2 · (log (1 + 2^(|d| · (-1/ln 2))) · 1/ln 2)`, a real number that is not negative. -/
theorem gap (d : EReal) : ∃ r : ℝ, 0 ≤ r ∧ Ideal.log1p (Ideal.exp (-(max d (-d)))) = (r : EReal)
    ∧ ((Real.log 2 : ℝ) : EReal) * (Ideal.log (1 + Ideal.exp2 (max d (-d) * ((-(Real.log 2)⁻¹ : ℝ) : EReal))) * (((Real.log 2)⁻¹ : ℝ) : EReal)) = (r : EReal) := by
  have hneg : (-(Real.log 2)⁻¹ : ℝ) < 0 := by
    have : 0 < Real.log 2 := Real.log_pos (by norm_num)
    simpa using this
  have inf : Ideal.log1p (Ideal.exp (-(⊤ : EReal))) = ((0 : ℝ) : EReal) := by
    rw [EReal.neg_top]
    show Ideal.log (1 + (0 : EReal)) = _
    rw [add_zero, ← EReal.coe_one]
    show (if (1 : ℝ) ≤ 0 then (⊥ : EReal) else (Real.log 1 : EReal)) = _
    rw [if_neg (by norm_num), Real.log_one]
  have inf2 : ((Real.log 2 : ℝ) : EReal) * (Ideal.log (1 + Ideal.exp2 ((⊤ : EReal) * ((-(Real.log 2)⁻¹ : ℝ) : EReal))) * (((Real.log 2)⁻¹ : ℝ) : EReal)) = ((0 : ℝ) : EReal) := by
    rw [EReal.top_mul_coe_of_neg hneg]
    have e : Ideal.log (1 + Ideal.exp2 ⊥) = ((0 : ℝ) : EReal) := by
      show Ideal.log (1 + (0 : EReal)) = _
      rw [add_zero, ← EReal.coe_one]
      show (if (1 : ℝ) ≤ 0 then (⊥ : EReal) else (Real.log 1 : EReal)) = _
      rw [if_neg (by norm_num), Real.log_one]
    rw [e, ln2_cancel]
  induction d with
  | bot => exact ⟨0, le_rfl, by simpa using inf, by simpa using inf2⟩
  | top => exact ⟨0, le_rfl, by simpa using inf, by simpa using inf2⟩
  | coe d =>
    have hmax : max (d : EReal) (-(d : EReal)) = ((|d| : ℝ) : EReal) := by
      rw [← EReal.coe_neg]
      exact (EReal.coe_strictMono.monotone.map_max (a := d) (b := -d)).symm
    have hpos : 0 < 1 + Real.exp (-|d|) := by positivity
    have hlog : ∀ x : ℝ, 0 < x → Ideal.log (x : EReal) = ((Real.log x : ℝ) : EReal) := fun x hx => by
      show (if x ≤ 0 then (⊥ : EReal) else (Real.log x : EReal)) = _
      rw [if_neg (not_le.mpr hx)]
    refine ⟨Real.log (1 + Real.exp (-|d|)), Real.log_nonneg (by linarith [Real.exp_pos (-|d|)]), ?_, ?_⟩
    · rw [hmax, ← EReal.coe_neg]
      show Ideal.log (1 + ((Real.exp (-|d|) : ℝ) : EReal)) = _
      rw [← EReal.coe_one, ← EReal.coe_add, hlog _ hpos]
    · rw [hmax, ← EReal.coe_mul]
      show ((Real.log 2 : ℝ) : EReal) * (Ideal.log (1 + ((Real.rpow 2 (|d| * -(Real.log 2)⁻¹) : ℝ) : EReal)) * _) = _
      have he : Real.rpow 2 (|d| * -(Real.log 2)⁻¹) = Real.exp (-|d|) := by
        show (2 : ℝ) ^ (|d| * -(Real.log 2)⁻¹) = _
        rw [Real.rpow_def_of_pos (by norm_num)]
        congr 1
        field_simp [log2_ne]
      rw [he, ← EReal.coe_one, ← EReal.coe_add, hlog _ hpos, ln2_cancel]

/-- A finite number added on both sides leaves a difference as it is. -/
theorem sub_shift (a b : EReal) (w : ℝ) : (a + w) - (b + w) = a - b := by
  induction a with
  | bot => simp [sub_eq_add_neg]
  | top =>
    induction b with
    | bot => simp [sub_eq_add_neg]
    | top => simp [sub_eq_add_neg]
    | coe b => rw [EReal.top_add_coe, ← EReal.coe_add, EReal.top_sub_coe, EReal.top_sub_coe]
  | coe a =>
    induction b with
    | bot => rw [EReal.bot_add, ← EReal.coe_add]; rfl
    | top => rw [EReal.top_add_coe, ← EReal.coe_add]; rfl
    | coe b =>
      rw [← EReal.coe_add, ← EReal.coe_add, ← EReal.coe_sub, ← EReal.coe_sub]
      congr 1; ring

theorem max_shift (a b w : EReal) : max (a + w) (b + w) = max a b + w := by
  rcases le_total a b with h | h
  · rw [max_eq_right h, max_eq_right (add_le_add_left h w)]
  · rw [max_eq_left h, max_eq_left (add_le_add_left h w)]

/-- The kernel's step is the reference's logaddexp, at every three extended reals. -/
theorem kerStep_eq (a b aw : EReal) : kerStep a b aw = lae (a + aw) (b + aw) := by
  unfold kerStep lae
  obtain ⟨r, hr, -, hk⟩ := gap (a - b)
  obtain ⟨s, hs, hl, -⟩ := gap ((a + aw) - (b + aw))
  rw [hk, hl, max_shift]
  have main : aw = ⊥ ∨ aw = ⊤ ∨ r = s := by
    induction aw with
    | bot => exact Or.inl rfl
    | top => exact Or.inr (Or.inl rfl)
    | coe w =>
      refine Or.inr (Or.inr ?_)
      obtain ⟨r', -, hl', hk'⟩ := gap (a - b)
      rw [sub_shift, hl'] at hl
      rw [hk'] at hk
      exact (EReal.coe_injective hk).symm.trans (EReal.coe_injective hl)
  rcases main with rfl | rfl | rfl
  · simp
  · by_cases hm : max a b = ⊥
    · simp [hm]
    · have h1 : max a b + (r : EReal) ≠ ⊥ := by simpa [EReal.add_eq_bot_iff] using hm
      rw [EReal.top_add_of_ne_bot h1, EReal.add_top_of_ne_bot hm, EReal.top_add_coe]
  · rw [add_comm aw, add_assoc, add_comm (r : EReal), ← add_assoc]

/-! ## The recurrence -/

/-- Row `n`, column `j` of the table over the weights `w`. -/
def T (w : ℕ → ℕ → EReal) : ℕ → ℕ → EReal
  | 0, j => if j = 0 then zro else neg
  | _ + 1, 0 => neg
  | n + 1, j + 1 => lae (T w n (j + 1) + w n j) (T w n j + w n j)

theorem T_zero_succ (w : ℕ → ℕ → EReal) (j : ℕ) : T w 0 (j + 1) = neg := rfl
theorem T_zero_zero (w : ℕ → ℕ → EReal) : T w 0 0 = zro := rfl
theorem T_succ_zero (w : ℕ → ℕ → EReal) (n : ℕ) : T w (n + 1) 0 = neg := by unfold T; rfl
theorem T_succ_succ (w : ℕ → ℕ → EReal) (n j : ℕ) : T w (n + 1) (j + 1) = kerStep (T w n (j + 1)) (T w n j) (w n j) := by
  rw [kerStep_eq]; conv_lhs => unfold T

/-! ## The sweeps -/

/-- One sweep of a table of 257 rows and 129 columns: the borders set, every other entry from the old entries above and above to the left. -/
def Sweep (w : ℕ → ℕ → EReal) (M M' : ℕ → ℕ → EReal) : Prop :=
  ∀ i j, i < 257 → j < 129 → M' i j = if i = 0 ∨ j = 0 then T w i j else lae (M (i - 1) j + w (i - 1) (j - 1)) (M (i - 1) (j - 1) + w (i - 1) (j - 1))

/-- A table whose rows up to `k` are the recurrence's has its rows up to `k + 1` so after a sweep. -/
theorem Sweep.step {w M M'} (h : Sweep w M M') {k : ℕ} (hk : ∀ i j, i < 257 → j < 129 → i ≤ k → M i j = T w i j) :
    ∀ i j, i < 257 → j < 129 → i ≤ k + 1 → M' i j = T w i j := fun i j hi hj hik => by
  rw [h i j hi hj]
  split
  · rfl
  · next hne =>
    obtain ⟨i, rfl⟩ : ∃ i', i = i' + 1 := ⟨i - 1, by omega⟩
    obtain ⟨j, rfl⟩ : ∃ j', j = j' + 1 := ⟨j - 1, by omega⟩
    rw [Nat.add_sub_cancel, Nat.add_sub_cancel, hk i (j + 1) (by omega) hj (by omega), hk i j (by omega) (by omega) (by omega)]
    conv_rhs => unfold T

/-- After at least 256 sweeps from a table whose row 0 is the recurrence's, the whole table is the recurrence's. -/
theorem sweep_iter {w : ℕ → ℕ → EReal} (M : ℕ → ℕ → ℕ → EReal) (h0 : ∀ j, j < 129 → M 0 0 j = T w 0 j) (hs : ∀ k, Sweep w (M k) (M (k + 1)))
    {n : ℕ} (hn : 256 ≤ n) (i j : ℕ) (hi : i < 257) (hj : j < 129) : M n i j = T w i j := by
  have key : ∀ k, ∀ i j, i < 257 → j < 129 → i ≤ k → M k i j = T w i j := fun k => by
    induction k with
    | zero => intro i j _ hj hi0; obtain rfl : i = 0 := by omega
              exact h0 j hj
    | succ k ih => exact (hs k).step ih
  exact key n i j hi hj (by omega)

/-- The weights of table `b`: 1.5 times the argument's entries, 0 outside. -/
def wt (x : (⟨3, ![64, 256, 128]⟩ : Shape).Idx → EReal) (b : Fin 64) (i j : ℕ) : EReal :=
  if h : i < 256 ∧ j < 128 then alpha * x (ix3 b ⟨i, h.1⟩ ⟨j, h.2⟩) else 0

theorem wt_of_lt (x : (⟨3, ![64, 256, 128]⟩ : Shape).Idx → EReal) (b : Fin 64) (i : Fin 256) (j : Fin 128) :
    wt x b i.val j.val = alpha * x (ix3 b i j) := by
  unfold wt; rw [dif_pos ⟨i.isLt, j.isLt⟩]

/-- The table depends on the weights above and to the left alone. -/
theorem T_congr {w w' : ℕ → ℕ → EReal} {n : ℕ} (h : ∀ k, k < n → ∀ j, w k j = w' k j) (j : ℕ) : T w n j = T w' n j := by
  induction n generalizing j with
  | zero => unfold T; rfl
  | succ n ih =>
    cases j with
    | zero => unfold T; rfl
    | succ j =>
      have ih' := fun j => ih (fun k hk => h k (by omega)) j
      show lae (T w n (j + 1) + w n j) (T w n j + w n j) = lae (T w' n (j + 1) + w' n j) (T w' n j + w' n j)
      rw [ih', ih', h n (by omega)]

/-- The weights as the kernel meets them: eight rows to a block of the argument, and the last block met twice, so that rows 256 to
    263 have the weights of rows 248 to 255. -/
def wk (x : (⟨3, ![64, 256, 128]⟩ : Shape).Idx → EReal) (b : Fin 64) (n j : ℕ) : EReal := wt x b (8 * min (n / 8) 31 + n % 8) j

theorem wk_eq (x : (⟨3, ![64, 256, 128]⟩ : Shape).Idx → EReal) (b : Fin 64) (n j : ℕ) (h : n < 256) : wk x b n j = wt x b n j := by
  unfold wk; congr 1; omega

/-- So on rows 0 to 256 the kernel's table is the table. -/
theorem T_wk (x : (⟨3, ![64, 256, 128]⟩ : Shape).Idx → EReal) (b : Fin 64) (n j : ℕ) (h : n < 257) : T (wk x b) n j = T (wt x b) n j :=
  T_congr (fun k hk j => wk_eq x b k j (by omega)) j

end Cert.Spec

end
-- ==== Proof.Rows.lean ====
/-
  The vectors that the body computes at one point are rows of the recurrence's table.

  A point computes eight rows, each in four quarters of 16 tables. `stepV` is the body's step on one quarter; at an entry it is
  the recurrence's step (`stepV_apply`). A quarter of row `n` stepped with the weights of row `n` and the border of row `n` is
  the quarter of row `n + 1` (`IsRow.step`), and the 32 vectors of a point follow one another by that.
-/
module

public import proofs.«01_k».proof.Proof.Run
public import proofs.«01_k».proof.Proof.Spec
public import Idealize.ShloMosaic.Lib.ValueIdx
public import Idealize.ShloMosaic.Lib.ValueLayout
public import Idealize.ShloMosaic.Lib.Pipeline.Value
public import Idealize.ShloMosaic.Lib.Writes

@[expose] public section

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec (neg zro alpha kerStep)

/-! ## The step on a quarter -/

abbrev Quarter := FVec Ideal S16x128 .f32
abbrev Column := FVec Ideal S16x1 .f32

/-- A quarter moved one column to the right, the border column put in front. -/
def shiftV (s : Quarter) (b : Column) : Quarter :=
  concatenate S16x128 1 [⟨S16x1, b⟩, ⟨S16x127, extractStridedSlice S16x127 ![0, 0] s slices_S16x128_o0_0_S16x127⟩]
    concatenates_S16x1_S16x127_S16x128_d1

/-- The body's step: the quarter `s` above, the border column `b`, the weights `a`. -/
def stepV (s a : Quarter) (b : Column) : Quarter :=
  addf a (addf (maximumf s (shiftV s b)) (mulf (broadcast S16x128 (Named.named κ "ln2" 0x3F317218#32))
    (mulf (log (addf (broadcast S16x128 (Scalar.ofBits .f32 0x3F800000#32))
      (exp2 (mulf (absf (subf s (shiftV s b))) (broadcast S16x128 (Named.named κ "neg_log2e" 0xBFB8AA3B#32))))))
      (broadcast S16x128 (Named.named κ "log2e" 0x3FB8AA3B#32)))))

theorem shiftV_zero (s : Quarter) (b : Column) (p : Fin 16) : shiftV s b (ix2 p (0 : Fin 128)) = b (ix2 p (0 : Fin 1)) := by
  unfold shiftV
  exact concatenate_pair_apply_left (t := S16x128) (s₁ := S16x1) (s₂ := S16x127) 1 _ _ _ _ rfl (ix2 p (0 : Fin 1)) (fun a => by
    match a with
    | ⟨0, _⟩ => rfl
    | ⟨1, _⟩ => rfl)

theorem shiftV_succ (s : Quarter) (b : Column) (p : Fin 16) (j : Fin 127) :
    shiftV s b (ix2 p (⟨j.val + 1, by omega⟩ : Fin 128)) = s (ix2 p (⟨j.val, by omega⟩ : Fin 128)) := by
  unfold shiftV
  rw [concatenate_pair_apply_right (t := S16x128) (s₁ := S16x1) (s₂ := S16x127) 1 _ _ _ _ rfl rfl (ix2 p j) (fun a ha => by
    match a with
    | ⟨0, _⟩ => rfl
    | ⟨1, _⟩ => exact absurd rfl ha) rfl]
  exact extractStridedSlice_apply _ _ _ _ _ (fun a => by
    match a with
    | ⟨0, _⟩ => show p.val = 0 + p.val; omega
    | ⟨1, _⟩ => show j.val = 0 + j.val; omega)

/-- The step at an entry. -/
theorem stepV_apply (s a : Quarter) (b : Column) (k : S16x128.Idx) : stepV s a b k = kerStep (s k) (shiftV s b k) (a k) := by
  unfold stepV kerStep
  rw [addf_apply, addf_apply, mulf_apply, mulf_apply, maximumf_apply]
  rw [show log (addf (broadcast S16x128 (Scalar.ofBits .f32 0x3F800000#32))
      (exp2 (mulf (absf (subf s (shiftV s b))) (broadcast S16x128 (Named.named κ "neg_log2e" 0xBFB8AA3B#32))))) k
      = Ideal.log (Ideal.ofBits .f32 0x3F800000#32 + Ideal.exp2 (max (s k - shiftV s b k) (-(s k - shiftV s b k)) * Named.named (F := Ideal) (φ := .f32) κ "neg_log2e" 0xBFB8AA3B#32)) from rfl]
  rw [Ideal.ofBits_one_f32, broadcast_apply, broadcast_apply]
  rw [show Named.named (F := Ideal) (φ := .f32) κ "neg_log2e" 0xBFB8AA3B#32 = ((-(Real.log 2)⁻¹ : ℝ) : EReal) from
      IdealRules.named_const.ideal_named_scalar _ _ _ _ rfl,
    show Named.named (F := Ideal) (φ := .f32) κ "log2e" 0x3FB8AA3B#32 = (((Real.log 2)⁻¹ : ℝ) : EReal) from
      IdealRules.named_const.ideal_named_scalar _ _ _ _ rfl,
    show Named.named (F := Ideal) (φ := .f32) κ "ln2" 0x3F317218#32 = ((Real.log 2 : ℝ) : EReal) from
      IdealRules.named_const.ideal_named_scalar _ _ _ _ rfl]

/-! ## Quarters of a row -/

/-- Table `p` of quarter `q`. -/
abbrev tb (q : Fin 4) (p : Fin 16) : Fin 64 := ⟨16 * q.val + p.val, by omega⟩

section
variable (w : Fin 64 → ℕ → ℕ → EReal)

/-- `X` is quarter `q` of row `n` without the border; `A` holds the weights of row `n`; `B` is the border of row `n`. -/
def IsRow (q : Fin 4) (n : ℕ) (X : Quarter) : Prop :=
  ∀ (p : Fin 16) (j : Fin 128), X (ix2 p j) = Spec.T (w (tb q p)) n (j.val + 1)
def IsWt (q : Fin 4) (n : ℕ) (A : Quarter) : Prop :=
  ∀ (p : Fin 16) (j : Fin 128), A (ix2 p j) = w (tb q p) n j.val
def IsBorder (n : ℕ) (B : Column) : Prop := ∀ p : Fin 16, B (ix2 p (0 : Fin 1)) = if n = 0 then zro else neg

variable {w}

theorem IsRow.step {q : Fin 4} {n : ℕ} {s A : Quarter} {B : Column} (hs : IsRow w q n s) (hA : IsWt w q n A) (hB : IsBorder n B) :
    IsRow w q (n + 1) (stepV s A B) := fun p j => by
  rw [stepV_apply, Spec.T_succ_succ, hs, hA]
  congr 1
  match j with
  | ⟨0, _⟩ =>
    refine (shiftV_zero s B p).trans ((hB p).trans ?_)
    cases n with
    | zero => rfl
    | succ n => rw [if_neg (by simp)]; rfl
  | ⟨j + 1, h⟩ => exact (shiftV_succ s B p ⟨j, by omega⟩).trans (hs p ⟨j, by omega⟩)

end

/-! ## What a point starts from -/

/-- The four quarters of a buffer of 64 tables, and the weights of a row as the body cuts them out. -/
theorem rowOf_apply (r : Fin 8) (q : Fin 4) (h : (⟨3, ![8, 64, 128]⟩ : Shape).Slices ![r.val, 16 * q.val, 0] S1x16x128) (v : FVec Ideal S8x64x128 .f32) (p : Fin 16)
    (j : Fin 128) : shapeCast S16x128 (extractStridedSlice S1x16x128 ![r.val, 16 * q.val, 0] v h) shapeCasts_S1x16x128_S16x128 (ix2 p j) = v (ix3 r (tb q p) j) := by
  refine (shapeCast_1ab_ab_apply _ _ p j).trans ?_
  exact extractStridedSlice_apply _ _ _ _ _ (fun a => by
    match a with
    | ⟨0, _⟩ => show r.val = r.val + 0; omega
    | ⟨1, _⟩ => show 16 * q.val + p.val = 16 * q.val + p.val; omega
    | ⟨2, _⟩ => show j.val = 0 + j.val; omega)

theorem isBorder_neg {n : ℕ} (h : n ≠ 0) : IsBorder n (k0_pay13 (F := Ideal)) := fun p => by rw [if_neg h]; rfl

/-- The border of a row below the first is -1e20. -/
theorem isBorder_later {n : ℕ} (v : BitVec 1) (h : n ≠ 0) : IsBorder n (Scalar.select (Scalar.andi v 0#1) (k0_pay14 (F := Ideal)) (k0_pay13 (F := Ideal))) := by
  have e : Scalar.andi v 0#1 = 0#1 := by revert v; decide
  rw [e]
  exact isBorder_neg h

theorem isBorder_first {n : ℕ} (v : BitVec 1) (hv : v = if n = 0 then 1#1 else 0#1) :
    IsBorder n (Scalar.select (Scalar.andi v 1#1) (k0_pay14 (F := Ideal)) (k0_pay13 (F := Ideal))) := by
  rcases Nat.eq_zero_or_pos n with rfl | h
  · subst hv; exact fun p => rfl
  · rw [if_neg (by omega)] at hv
    subst hv; exact isBorder_neg (by omega)

/-- What holds when point `t` begins, of the values that the body reads: the first-point flag, the eight rows of weights, and
    (after point 0) the last row of the point before and its weights. -/
structure Start (w : Fin 64 → ℕ → ℕ → EReal) (t : ℕ) (c : Dev nD) (i : grid0.Coords)
    (M1 : Memref sig .tc .vmem S64x8x128 .f32) (M4 M5 : Memref sig .tc .vmem S64x128 .f32)
    (f1 : Bf (F := Ideal) c M1) (f4 : Bf (F := Ideal) c M4) (f5 : Bf (F := Ideal) c M5) : Prop where
  first : kernelRun.sl.v0 i = if t = 0 then 1#1 else 0#1
  wts : ∀ (r : Fin 8) (b : Fin 64) (j : Fin 128), kernelRun.sl.v50 c M1 f1 (ix3 r b j) = w b (8 * t + r.val) j.val
  row : t ≠ 0 → ∀ (b : Fin 64) (j : Fin 128), M4.view.read (Elt Ideal) f4 (ix2 b j) = Spec.T (w b) (8 * t - 1) (j.val + 1)
  wrow : t ≠ 0 → ∀ (b : Fin 64) (j : Fin 128), M5.view.read (Elt Ideal) f5 (ix2 b j) = w b (8 * t - 1) j.val

variable {w : Fin 64 → ℕ → ℕ → EReal} {t : ℕ} {c : Dev nD} {i : grid0.Coords}
    {M1 : Memref sig .tc .vmem S64x8x128 .f32} {M4 M5 : Memref sig .tc .vmem S64x128 .f32}
    {f1 : Bf (F := Ideal) c M1} {f4 : Bf (F := Ideal) c M4} {f5 : Bf (F := Ideal) c M5}

/-- A quarter of a buffer of 64 tables. -/
theorem quarter_apply {c : Dev nD} {M : Memref sig .tc .vmem S64x128 .f32} (f : Bf (F := Ideal) c M) (q : Fin 4)
    (h : ∀ a, (![16 * q.val, 0] : Fin 2 → ℕ) a + S16x128.size a ≤ S64x128.size a) (p : Fin 16) (j : Fin 128) :
    View.readAt (Elt Ideal) M.view (Rect.unit (s := S64x128) ![16 * q.val, 0] S16x128.size h).toLoadRect f (ix2 p j) = M.view.read (Elt Ideal) f (ix2 (tb q p) j) := by
  rw [View.readAt_apply]
  refine congrArg _ (funext fun a => Fin.ext ?_)
  match a with
  | ⟨0, _⟩ => show 16 * q.val + 1 * p.val = 16 * q.val + p.val; omega
  | ⟨1, _⟩ => show 0 + 1 * j.val = j.val; omega

theorem Start.isWt (H : Start w t c i M1 M4 M5 f1 f4 f5) (r : Fin 8) (q : Fin 4) (h : (⟨3, ![8, 64, 128]⟩ : Shape).Slices ![r.val, 16 * q.val, 0] S1x16x128) :
    IsWt w q (8 * t + r.val) (shapeCast S16x128 (extractStridedSlice S1x16x128 ![r.val, 16 * q.val, 0] (kernelRun.sl.v50 c M1 f1) h) shapeCasts_S1x16x128_S16x128) :=
  fun p j => (rowOf_apply r q h _ p j).trans (H.wts r (tb q p) j)

/-- The first row of a point: -1e20 at point 0, else one step from the row kept. -/
theorem Start.first_row (H : Start w t c i M1 M4 M5 f1 f4 f5) (q : Fin 4)
    (h : ∀ a, (![16 * q.val, 0] : Fin 2 → ℕ) a + S16x128.size a ≤ S64x128.size a) :
    IsRow w q (8 * t) (Scalar.select (kernelRun.sl.v0 i) (k0_pay15 (F := Ideal))
      (stepV (View.readAt (Elt Ideal) M4.view (Rect.unit (s := S64x128) ![16 * q.val, 0] S16x128.size h).toLoadRect f4)
        (View.readAt (Elt Ideal) M5.view (Rect.unit (s := S64x128) ![16 * q.val, 0] S16x128.size h).toLoadRect f5) (k0_pay13 (F := Ideal)))) := by
  have hf := H.first
  by_cases ht : t = 0
  · rw [if_pos ht] at hf
    rw [hf]; subst ht
    exact fun p j => rfl
  · rw [if_neg ht] at hf
    rw [hf]
    have e : 8 * t = (8 * t - 1) + 1 := by omega
    rw [e]
    exact IsRow.step (fun p j => (quarter_apply f4 q h p j).trans (H.row ht _ _)) (fun p j => (quarter_apply f5 q h p j).trans (H.wrow ht _ _))
      (isBorder_neg (by omega))

/-! ## The 32 vectors of a point -/

theorem Start.row0_0 (H : Start w t c i M1 M4 M5 f1 f4 f5) : IsRow w 0 (8 * t) (kernelRun.sl.v73 c i M4 M5 f4 f5) :=
  H.first_row 0 inb_S64x128_S16x128_0_0
theorem Start.row0_1 (H : Start w t c i M1 M4 M5 f1 f4 f5) : IsRow w 1 (8 * t) (kernelRun.sl.v97 c i M4 M5 f4 f5) :=
  H.first_row 1 inb_S64x128_S16x128_16_0
theorem Start.row0_2 (H : Start w t c i M1 M4 M5 f1 f4 f5) : IsRow w 2 (8 * t) (kernelRun.sl.v121 c i M4 M5 f4 f5) :=
  H.first_row 2 inb_S64x128_S16x128_32_0
theorem Start.row0_3 (H : Start w t c i M1 M4 M5 f1 f4 f5) : IsRow w 3 (8 * t) (kernelRun.sl.v145 c i M4 M5 f4 f5) :=
  H.first_row 3 inb_S64x128_S16x128_48_0

theorem Start.border1 (H : Start w t c i M1 M4 M5 f1 f4 f5) : IsBorder (8 * t) (kernelRun.sl.v151 (F := Ideal) i) :=
  isBorder_first _ (H.first.trans (if_congr (by omega) rfl rfl))
theorem Start.row1_0 (H : Start w t c i M1 M4 M5 f1 f4 f5) : IsRow w 0 (8 * t + 1) (kernelRun.sl.v170 c i M1 M4 M5 f1 f4 f5) :=
  H.row0_0.step (H.isWt 0 0 slices_S8x64x128_o0_0_0_S1x16x128) H.border1
theorem Start.row1_1 (H : Start w t c i M1 M4 M5 f1 f4 f5) : IsRow w 1 (8 * t + 1) (kernelRun.sl.v193 c i M1 M4 M5 f1 f4 f5) :=
  H.row0_1.step (H.isWt 0 1 slices_S8x64x128_o0_16_0_S1x16x128) H.border1
theorem Start.row1_2 (H : Start w t c i M1 M4 M5 f1 f4 f5) : IsRow w 2 (8 * t + 1) (kernelRun.sl.v216 c i M1 M4 M5 f1 f4 f5) :=
  H.row0_2.step (H.isWt 0 2 slices_S8x64x128_o0_32_0_S1x16x128) H.border1
theorem Start.row1_3 (H : Start w t c i M1 M4 M5 f1 f4 f5) : IsRow w 3 (8 * t + 1) (kernelRun.sl.v239 c i M1 M4 M5 f1 f4 f5) :=
  H.row0_3.step (H.isWt 0 3 slices_S8x64x128_o0_48_0_S1x16x128) H.border1

theorem Start.border2 (H : Start w t c i M1 M4 M5 f1 f4 f5) : IsBorder (8 * t + 1) (kernelRun.sl.v245 (F := Ideal) i) :=
  isBorder_later _ (by omega)
theorem Start.row2_0 (H : Start w t c i M1 M4 M5 f1 f4 f5) : IsRow w 0 (8 * t + 2) (kernelRun.sl.v264 c i M1 M4 M5 f1 f4 f5) :=
  H.row1_0.step (H.isWt 1 0 slices_S8x64x128_o1_0_0_S1x16x128) H.border2
theorem Start.row2_1 (H : Start w t c i M1 M4 M5 f1 f4 f5) : IsRow w 1 (8 * t + 2) (kernelRun.sl.v287 c i M1 M4 M5 f1 f4 f5) :=
  H.row1_1.step (H.isWt 1 1 slices_S8x64x128_o1_16_0_S1x16x128) H.border2
theorem Start.row2_2 (H : Start w t c i M1 M4 M5 f1 f4 f5) : IsRow w 2 (8 * t + 2) (kernelRun.sl.v310 c i M1 M4 M5 f1 f4 f5) :=
  H.row1_2.step (H.isWt 1 2 slices_S8x64x128_o1_32_0_S1x16x128) H.border2
theorem Start.row2_3 (H : Start w t c i M1 M4 M5 f1 f4 f5) : IsRow w 3 (8 * t + 2) (kernelRun.sl.v333 c i M1 M4 M5 f1 f4 f5) :=
  H.row1_3.step (H.isWt 1 3 slices_S8x64x128_o1_48_0_S1x16x128) H.border2

theorem Start.border3 (H : Start w t c i M1 M4 M5 f1 f4 f5) : IsBorder (8 * t + 2) (kernelRun.sl.v339 (F := Ideal) i) :=
  isBorder_later _ (by omega)
theorem Start.row3_0 (H : Start w t c i M1 M4 M5 f1 f4 f5) : IsRow w 0 (8 * t + 3) (kernelRun.sl.v358 c i M1 M4 M5 f1 f4 f5) :=
  H.row2_0.step (H.isWt 2 0 slices_S8x64x128_o2_0_0_S1x16x128) H.border3
theorem Start.row3_1 (H : Start w t c i M1 M4 M5 f1 f4 f5) : IsRow w 1 (8 * t + 3) (kernelRun.sl.v381 c i M1 M4 M5 f1 f4 f5) :=
  H.row2_1.step (H.isWt 2 1 slices_S8x64x128_o2_16_0_S1x16x128) H.border3
theorem Start.row3_2 (H : Start w t c i M1 M4 M5 f1 f4 f5) : IsRow w 2 (8 * t + 3) (kernelRun.sl.v404 c i M1 M4 M5 f1 f4 f5) :=
  H.row2_2.step (H.isWt 2 2 slices_S8x64x128_o2_32_0_S1x16x128) H.border3
theorem Start.row3_3 (H : Start w t c i M1 M4 M5 f1 f4 f5) : IsRow w 3 (8 * t + 3) (kernelRun.sl.v427 c i M1 M4 M5 f1 f4 f5) :=
  H.row2_3.step (H.isWt 2 3 slices_S8x64x128_o2_48_0_S1x16x128) H.border3

theorem Start.border4 (H : Start w t c i M1 M4 M5 f1 f4 f5) : IsBorder (8 * t + 3) (kernelRun.sl.v433 (F := Ideal) i) :=
  isBorder_later _ (by omega)
theorem Start.row4_0 (H : Start w t c i M1 M4 M5 f1 f4 f5) : IsRow w 0 (8 * t + 4) (kernelRun.sl.v452 c i M1 M4 M5 f1 f4 f5) :=
  H.row3_0.step (H.isWt 3 0 slices_S8x64x128_o3_0_0_S1x16x128) H.border4
theorem Start.row4_1 (H : Start w t c i M1 M4 M5 f1 f4 f5) : IsRow w 1 (8 * t + 4) (kernelRun.sl.v475 c i M1 M4 M5 f1 f4 f5) :=
  H.row3_1.step (H.isWt 3 1 slices_S8x64x128_o3_16_0_S1x16x128) H.border4
theorem Start.row4_2 (H : Start w t c i M1 M4 M5 f1 f4 f5) : IsRow w 2 (8 * t + 4) (kernelRun.sl.v498 c i M1 M4 M5 f1 f4 f5) :=
  H.row3_2.step (H.isWt 3 2 slices_S8x64x128_o3_32_0_S1x16x128) H.border4
theorem Start.row4_3 (H : Start w t c i M1 M4 M5 f1 f4 f5) : IsRow w 3 (8 * t + 4) (kernelRun.sl.v521 c i M1 M4 M5 f1 f4 f5) :=
  H.row3_3.step (H.isWt 3 3 slices_S8x64x128_o3_48_0_S1x16x128) H.border4

theorem Start.border5 (H : Start w t c i M1 M4 M5 f1 f4 f5) : IsBorder (8 * t + 4) (kernelRun.sl.v527 (F := Ideal) i) :=
  isBorder_later _ (by omega)
theorem Start.row5_0 (H : Start w t c i M1 M4 M5 f1 f4 f5) : IsRow w 0 (8 * t + 5) (kernelRun.sl.v546 c i M1 M4 M5 f1 f4 f5) :=
  H.row4_0.step (H.isWt 4 0 slices_S8x64x128_o4_0_0_S1x16x128) H.border5
theorem Start.row5_1 (H : Start w t c i M1 M4 M5 f1 f4 f5) : IsRow w 1 (8 * t + 5) (kernelRun.sl.v569 c i M1 M4 M5 f1 f4 f5) :=
  H.row4_1.step (H.isWt 4 1 slices_S8x64x128_o4_16_0_S1x16x128) H.border5
theorem Start.row5_2 (H : Start w t c i M1 M4 M5 f1 f4 f5) : IsRow w 2 (8 * t + 5) (kernelRun.sl.v592 c i M1 M4 M5 f1 f4 f5) :=
  H.row4_2.step (H.isWt 4 2 slices_S8x64x128_o4_32_0_S1x16x128) H.border5
theorem Start.row5_3 (H : Start w t c i M1 M4 M5 f1 f4 f5) : IsRow w 3 (8 * t + 5) (kernelRun.sl.v615 c i M1 M4 M5 f1 f4 f5) :=
  H.row4_3.step (H.isWt 4 3 slices_S8x64x128_o4_48_0_S1x16x128) H.border5

theorem Start.border6 (H : Start w t c i M1 M4 M5 f1 f4 f5) : IsBorder (8 * t + 5) (kernelRun.sl.v621 (F := Ideal) i) :=
  isBorder_later _ (by omega)
theorem Start.row6_0 (H : Start w t c i M1 M4 M5 f1 f4 f5) : IsRow w 0 (8 * t + 6) (kernelRun.sl.v640 c i M1 M4 M5 f1 f4 f5) :=
  H.row5_0.step (H.isWt 5 0 slices_S8x64x128_o5_0_0_S1x16x128) H.border6
theorem Start.row6_1 (H : Start w t c i M1 M4 M5 f1 f4 f5) : IsRow w 1 (8 * t + 6) (kernelRun.sl.v663 c i M1 M4 M5 f1 f4 f5) :=
  H.row5_1.step (H.isWt 5 1 slices_S8x64x128_o5_16_0_S1x16x128) H.border6
theorem Start.row6_2 (H : Start w t c i M1 M4 M5 f1 f4 f5) : IsRow w 2 (8 * t + 6) (kernelRun.sl.v686 c i M1 M4 M5 f1 f4 f5) :=
  H.row5_2.step (H.isWt 5 2 slices_S8x64x128_o5_32_0_S1x16x128) H.border6
theorem Start.row6_3 (H : Start w t c i M1 M4 M5 f1 f4 f5) : IsRow w 3 (8 * t + 6) (kernelRun.sl.v709 c i M1 M4 M5 f1 f4 f5) :=
  H.row5_3.step (H.isWt 5 3 slices_S8x64x128_o5_48_0_S1x16x128) H.border6

theorem Start.border7 (H : Start w t c i M1 M4 M5 f1 f4 f5) : IsBorder (8 * t + 6) (kernelRun.sl.v715 (F := Ideal) i) :=
  isBorder_later _ (by omega)
theorem Start.row7_0 (H : Start w t c i M1 M4 M5 f1 f4 f5) : IsRow w 0 (8 * t + 7) (kernelRun.sl.v734 c i M1 M4 M5 f1 f4 f5) :=
  H.row6_0.step (H.isWt 6 0 slices_S8x64x128_o6_0_0_S1x16x128) H.border7
theorem Start.row7_1 (H : Start w t c i M1 M4 M5 f1 f4 f5) : IsRow w 1 (8 * t + 7) (kernelRun.sl.v757 c i M1 M4 M5 f1 f4 f5) :=
  H.row6_1.step (H.isWt 6 1 slices_S8x64x128_o6_16_0_S1x16x128) H.border7
theorem Start.row7_2 (H : Start w t c i M1 M4 M5 f1 f4 f5) : IsRow w 2 (8 * t + 7) (kernelRun.sl.v780 c i M1 M4 M5 f1 f4 f5) :=
  H.row6_2.step (H.isWt 6 2 slices_S8x64x128_o6_32_0_S1x16x128) H.border7
theorem Start.row7_3 (H : Start w t c i M1 M4 M5 f1 f4 f5) : IsRow w 3 (8 * t + 7) (kernelRun.sl.v803 c i M1 M4 M5 f1 f4 f5) :=
  H.row6_3.step (H.isWt 6 3 slices_S8x64x128_o6_48_0_S1x16x128) H.border7

end Cert.KernelIdeal.Hand

end
-- ==== Proof.Writes.lean ====
/-
  What the body leaves in the three scratch buffers and in the output block at one point, read at an index.

  Each buffer is written in pieces. Every piece of a buffer agrees with one function of the buffer's index (a row of the
  recurrence's table), so the buffer holds that function wherever a piece was written.
-/
module

public import proofs.«01_k».proof.Proof.Rows

@[expose] public section

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec (neg zro)

/-! ## The offsets -/

/-- At point `t` the rows are written to slot `t mod 2`; the output block is read from the other slot. -/
theorem slot_wr : ∀ t : Fin cfg0.N, k0_off2 (grid0.coords t) 0 = t.val % 2 := by decide +kernel
theorem slot_rd : ∀ t : Fin cfg0.N, t.val ≠ 0 → k0_off1 (grid0.coords t) 0 = (t.val - 1) % 2 := by decide +kernel
theorem first_flag : ∀ t : Fin cfg0.N, kernelRun.sl.v0 (grid0.coords t) = if t.val = 0 then 1#1 else 0#1 := by decide +kernel
theorem corner_flag : ∀ (t : Fin cfg0.N) (r : Fin 8), Scalar.andi (Scalar.cmpi .eq (BitVec.ofNat 32 (grid0.coords t 0).val) 1#32) (Scalar.cmpi .eq (BitVec.ofNat 32 r.val) 0#32)
    = if t.val = 1 ∧ r.val = 0 then 1#1 else 0#1 := by decide +kernel

variable {w : Fin 64 → ℕ → ℕ → EReal} {t : ℕ} {c : Dev nD} {i : grid0.Coords}
    {M1 : Memref sig .tc .vmem S64x8x128 .f32} {h1 : M1.IsWhole} {M2 : Memref sig .tc .vmem S64x8x129 .f32} {h2 : M2.IsWhole}
    {M3 : Memref sig .tc .vmem S2x8x64x128 .f32} {h3 : M3.IsWhole} {M4 : Memref sig .tc .vmem S64x128 .f32} {h4 : M4.IsWhole}
    {M5 : Memref sig .tc .vmem S64x128 .f32} {h5 : M5.IsWhole}
    {f1 : Bf (F := Ideal) c M1} {f3 : Bf (F := Ideal) c M3} {f4 : Bf (F := Ideal) c M4} {f5 : Bf (F := Ideal) c M5}

/-! ## The rows' buffer -/

/-- What the slot written at point `t` ends with. -/
def slotF (w : Fin 64 → ℕ → ℕ → EReal) (t : ℕ) : S2x8x64x128.Idx → EReal :=
  fun y => Spec.T (w ⟨(y 2).val, (y 2).isLt⟩) (8 * t + (y 1).val) ((y 3).val + 1)

/-- The piece of row `r`, quarter `q`. -/
theorem slot_piece {r : Fin 8} {q : Fin 4} {X : Quarter} (hX : IsRow w q (8 * t + r.val) X) (off : Fin 4 → ℕ)
    (inb : ∀ a, off a + S1x1x16x128.size a ≤ S2x8x64x128.size a) (ho1 : off 1 = r.val) (ho2 : off 2 = 16 * q.val) (ho3 : off 3 = 0)
    (x : (Rect.unit (s := S2x8x64x128) off S1x1x16x128.size inb).shape.Idx) :
    shapeCast S1x1x16x128 X shapeCasts_S16x128_S1x1x16x128 x = slotF w t ((Rect.unit (s := S2x8x64x128) off S1x1x16x128.size inb).emb x) := by
  obtain ⟨u, v, p, j, rfl⟩ : ∃ (u : Fin 1) (v : Fin 1) (p : Fin 16) (j : Fin 128), x = ix4 u v p j := ⟨x 0, x 1, x 2, x 3, eq_ix4 x⟩
  have hu : u.val = 0 := by omega
  have hv : v.val = 0 := by omega
  refine (shapeCast_apply X _ (ix4 u v p j) (ix2 p j) (by
    rw [Shape.rowMajor_val_four, Shape.rowMajor_val_two]
    show p.val * 128 + j.val = ((u.val * 1 + v.val) * 16 + p.val) * 128 + j.val
    omega)).trans ((hX p j).trans ?_)
  have e1 : ((Rect.unit (s := S2x8x64x128) off S1x1x16x128.size inb).emb (ix4 u v p j) 1).val = r.val := by
    show off 1 + 1 * v.val = r.val; omega
  have e2 : ((Rect.unit (s := S2x8x64x128) off S1x1x16x128.size inb).emb (ix4 u v p j) 2).val = 16 * q.val + p.val := by
    show off 2 + 1 * p.val = 16 * q.val + p.val; omega
  have e3 : ((Rect.unit (s := S2x8x64x128) off S1x1x16x128.size inb).emb (ix4 u v p j) 3).val = j.val := by
    show off 3 + 1 * j.val = j.val; omega
  unfold slotF
  rw [e3, e1]
  congr 2
  exact Fin.ext e2.symm

/-- An index in the slot lies in the piece of its row and quarter. -/
theorem slot_mem (off : Fin 4 → ℕ) (inb : ∀ a, off a + S1x1x16x128.size a ≤ S2x8x64x128.size a) {s : Fin 2} {r : Fin 8} {b : Fin 64} {j : Fin 128}
    (ho0 : off 0 = s.val) (ho1 : off 1 = r.val) (ho2 : off 2 = 16 * (b.val / 16)) (ho3 : off 3 = 0) :
    ix4 s r b j ∈ (Rect.unit (s := S2x8x64x128) off S1x1x16x128.size inb).set := by
  rw [Rect.mem_set_unit]
  intro a
  match a with
  | ⟨0, _⟩ => show off 0 ≤ s.val ∧ s.val < off 0 + 1; omega
  | ⟨1, _⟩ => show off 1 ≤ r.val ∧ r.val < off 1 + 1; omega
  | ⟨2, _⟩ => show off 2 ≤ b.val ∧ b.val < off 2 + 16; omega
  | ⟨3, _⟩ => show off 3 ≤ j.val ∧ j.val < off 3 + 128; omega

/-- The pieces written into the rows' buffer, the last one first. -/
abbrev slotPieces (c : Dev nD) (i : grid0.Coords) (M1 : Memref sig .tc .vmem S64x8x128 .f32) (M4 M5 : Memref sig .tc .vmem S64x128 .f32)
    (f1 : Bf (F := Ideal) c M1) (f4 : Bf (F := Ideal) c M4) (f5 : Bf (F := Ideal) c M5) : List (View.Piece (Elt Ideal) S2x8x64x128 .f32) :=
  ⟨Rect.unit (k0_off33 i) S1x1x16x128.size (k0_off33_inb i), k0_pay136 (kernelRun.sl.v50 c M1 f1) (kernelRun.sl.v709 c i M1 M4 M5 f1 f4 f5) (kernelRun.sl.v715 i)⟩ ::
  ⟨Rect.unit (k0_off32 i) S1x1x16x128.size (k0_off32_inb i), k0_pay134 (kernelRun.sl.v763 c M1 f1) (kernelRun.sl.v766 c i M1 M4 M5 f1 f4 f5) (kernelRun.sl.v767 c i M1 M4 M5 f1 f4 f5)⟩ ::
  kernelRun.sl.H3_30 c i M1 M4 M5 f1 f4 f5

theorem slot_agree (H : Start w t c i M1 M4 M5 f1 f4 f5) : ∀ p ∈ slotPieces c i M1 M4 M5 f1 f4 f5, ∀ x : p.1.shape.Idx, p.2 x = slotF w t (p.1.emb x) :=
  List.forall_mem_cons.2 ⟨slot_piece (r := 7) (q := 3) H.row7_3 (k0_off33 i) (k0_off33_inb i) rfl rfl rfl,
  List.forall_mem_cons.2 ⟨slot_piece (r := 7) (q := 2) H.row7_2 (k0_off32 i) (k0_off32_inb i) rfl rfl rfl,
  List.forall_mem_cons.2 ⟨slot_piece (r := 7) (q := 1) H.row7_1 (k0_off31 i) (k0_off31_inb i) rfl rfl rfl,
  List.forall_mem_cons.2 ⟨slot_piece (r := 7) (q := 0) H.row7_0 (k0_off30 i) (k0_off30_inb i) rfl rfl rfl,
  List.forall_mem_cons.2 ⟨slot_piece (r := 6) (q := 3) H.row6_3 (k0_off29 i) (k0_off29_inb i) rfl rfl rfl,
  List.forall_mem_cons.2 ⟨slot_piece (r := 6) (q := 2) H.row6_2 (k0_off28 i) (k0_off28_inb i) rfl rfl rfl,
  List.forall_mem_cons.2 ⟨slot_piece (r := 6) (q := 1) H.row6_1 (k0_off27 i) (k0_off27_inb i) rfl rfl rfl,
  List.forall_mem_cons.2 ⟨slot_piece (r := 6) (q := 0) H.row6_0 (k0_off26 i) (k0_off26_inb i) rfl rfl rfl,
  List.forall_mem_cons.2 ⟨slot_piece (r := 5) (q := 3) H.row5_3 (k0_off25 i) (k0_off25_inb i) rfl rfl rfl,
  List.forall_mem_cons.2 ⟨slot_piece (r := 5) (q := 2) H.row5_2 (k0_off24 i) (k0_off24_inb i) rfl rfl rfl,
  List.forall_mem_cons.2 ⟨slot_piece (r := 5) (q := 1) H.row5_1 (k0_off23 i) (k0_off23_inb i) rfl rfl rfl,
  List.forall_mem_cons.2 ⟨slot_piece (r := 5) (q := 0) H.row5_0 (k0_off22 i) (k0_off22_inb i) rfl rfl rfl,
  List.forall_mem_cons.2 ⟨slot_piece (r := 4) (q := 3) H.row4_3 (k0_off21 i) (k0_off21_inb i) rfl rfl rfl,
  List.forall_mem_cons.2 ⟨slot_piece (r := 4) (q := 2) H.row4_2 (k0_off20 i) (k0_off20_inb i) rfl rfl rfl,
  List.forall_mem_cons.2 ⟨slot_piece (r := 4) (q := 1) H.row4_1 (k0_off19 i) (k0_off19_inb i) rfl rfl rfl,
  List.forall_mem_cons.2 ⟨slot_piece (r := 4) (q := 0) H.row4_0 (k0_off18 i) (k0_off18_inb i) rfl rfl rfl,
  List.forall_mem_cons.2 ⟨slot_piece (r := 3) (q := 3) H.row3_3 (k0_off17 i) (k0_off17_inb i) rfl rfl rfl,
  List.forall_mem_cons.2 ⟨slot_piece (r := 3) (q := 2) H.row3_2 (k0_off16 i) (k0_off16_inb i) rfl rfl rfl,
  List.forall_mem_cons.2 ⟨slot_piece (r := 3) (q := 1) H.row3_1 (k0_off15 i) (k0_off15_inb i) rfl rfl rfl,
  List.forall_mem_cons.2 ⟨slot_piece (r := 3) (q := 0) H.row3_0 (k0_off14 i) (k0_off14_inb i) rfl rfl rfl,
  List.forall_mem_cons.2 ⟨slot_piece (r := 2) (q := 3) H.row2_3 (k0_off13 i) (k0_off13_inb i) rfl rfl rfl,
  List.forall_mem_cons.2 ⟨slot_piece (r := 2) (q := 2) H.row2_2 (k0_off12 i) (k0_off12_inb i) rfl rfl rfl,
  List.forall_mem_cons.2 ⟨slot_piece (r := 2) (q := 1) H.row2_1 (k0_off11 i) (k0_off11_inb i) rfl rfl rfl,
  List.forall_mem_cons.2 ⟨slot_piece (r := 2) (q := 0) H.row2_0 (k0_off10 i) (k0_off10_inb i) rfl rfl rfl,
  List.forall_mem_cons.2 ⟨slot_piece (r := 1) (q := 3) H.row1_3 (k0_off9 i) (k0_off9_inb i) rfl rfl rfl,
  List.forall_mem_cons.2 ⟨slot_piece (r := 1) (q := 2) H.row1_2 (k0_off8 i) (k0_off8_inb i) rfl rfl rfl,
  List.forall_mem_cons.2 ⟨slot_piece (r := 1) (q := 1) H.row1_1 (k0_off7 i) (k0_off7_inb i) rfl rfl rfl,
  List.forall_mem_cons.2 ⟨slot_piece (r := 1) (q := 0) H.row1_0 (k0_off6 i) (k0_off6_inb i) rfl rfl rfl,
  List.forall_mem_cons.2 ⟨slot_piece (r := 0) (q := 3) H.row0_3 (k0_off5 i) (k0_off5_inb i) rfl rfl rfl,
  List.forall_mem_cons.2 ⟨slot_piece (r := 0) (q := 2) H.row0_2 (k0_off4 i) (k0_off4_inb i) rfl rfl rfl,
  List.forall_mem_cons.2 ⟨slot_piece (r := 0) (q := 1) H.row0_1 (k0_off3 i) (k0_off3_inb i) rfl rfl rfl,
  List.forall_mem_cons.2 ⟨slot_piece (r := 0) (q := 0) H.row0_0 (k0_off2 i) (k0_off2_inb i) rfl rfl rfl,
  fun _ h => absurd h List.not_mem_nil⟩⟩⟩⟩⟩⟩⟩⟩⟩⟩⟩⟩⟩⟩⟩⟩⟩⟩⟩⟩⟩⟩⟩⟩⟩⟩⟩⟩⟩⟩⟩⟩

theorem slot_cover {s : Fin 2} (hs : k0_off2 i 0 = s.val) (r : Fin 8) (b : Fin 64) (j : Fin 128) :
    ∃ p ∈ slotPieces c i M1 M4 M5 f1 f4 f5, ix4 s r b j ∈ p.1.set := by
  have hq : b.val / 16 < 4 := by omega
  obtain ⟨q, hq'⟩ : ∃ q : Fin 4, q.val = b.val / 16 := ⟨⟨b.val / 16, hq⟩, rfl⟩
  match r, q, hq' with
  | ⟨0, _⟩, ⟨0, _⟩, e => exact ⟨_, List.mem_of_getElem? (i := 31) rfl, slot_mem (k0_off2 i) (k0_off2_inb i) hs rfl (congrArg (16 * ·) e) rfl⟩
  | ⟨0, _⟩, ⟨1, _⟩, e => exact ⟨_, List.mem_of_getElem? (i := 30) rfl, slot_mem (k0_off3 i) (k0_off3_inb i) hs rfl (congrArg (16 * ·) e) rfl⟩
  | ⟨0, _⟩, ⟨2, _⟩, e => exact ⟨_, List.mem_of_getElem? (i := 29) rfl, slot_mem (k0_off4 i) (k0_off4_inb i) hs rfl (congrArg (16 * ·) e) rfl⟩
  | ⟨0, _⟩, ⟨3, _⟩, e => exact ⟨_, List.mem_of_getElem? (i := 28) rfl, slot_mem (k0_off5 i) (k0_off5_inb i) hs rfl (congrArg (16 * ·) e) rfl⟩
  | ⟨1, _⟩, ⟨0, _⟩, e => exact ⟨_, List.mem_of_getElem? (i := 27) rfl, slot_mem (k0_off6 i) (k0_off6_inb i) hs rfl (congrArg (16 * ·) e) rfl⟩
  | ⟨1, _⟩, ⟨1, _⟩, e => exact ⟨_, List.mem_of_getElem? (i := 26) rfl, slot_mem (k0_off7 i) (k0_off7_inb i) hs rfl (congrArg (16 * ·) e) rfl⟩
  | ⟨1, _⟩, ⟨2, _⟩, e => exact ⟨_, List.mem_of_getElem? (i := 25) rfl, slot_mem (k0_off8 i) (k0_off8_inb i) hs rfl (congrArg (16 * ·) e) rfl⟩
  | ⟨1, _⟩, ⟨3, _⟩, e => exact ⟨_, List.mem_of_getElem? (i := 24) rfl, slot_mem (k0_off9 i) (k0_off9_inb i) hs rfl (congrArg (16 * ·) e) rfl⟩
  | ⟨2, _⟩, ⟨0, _⟩, e => exact ⟨_, List.mem_of_getElem? (i := 23) rfl, slot_mem (k0_off10 i) (k0_off10_inb i) hs rfl (congrArg (16 * ·) e) rfl⟩
  | ⟨2, _⟩, ⟨1, _⟩, e => exact ⟨_, List.mem_of_getElem? (i := 22) rfl, slot_mem (k0_off11 i) (k0_off11_inb i) hs rfl (congrArg (16 * ·) e) rfl⟩
  | ⟨2, _⟩, ⟨2, _⟩, e => exact ⟨_, List.mem_of_getElem? (i := 21) rfl, slot_mem (k0_off12 i) (k0_off12_inb i) hs rfl (congrArg (16 * ·) e) rfl⟩
  | ⟨2, _⟩, ⟨3, _⟩, e => exact ⟨_, List.mem_of_getElem? (i := 20) rfl, slot_mem (k0_off13 i) (k0_off13_inb i) hs rfl (congrArg (16 * ·) e) rfl⟩
  | ⟨3, _⟩, ⟨0, _⟩, e => exact ⟨_, List.mem_of_getElem? (i := 19) rfl, slot_mem (k0_off14 i) (k0_off14_inb i) hs rfl (congrArg (16 * ·) e) rfl⟩
  | ⟨3, _⟩, ⟨1, _⟩, e => exact ⟨_, List.mem_of_getElem? (i := 18) rfl, slot_mem (k0_off15 i) (k0_off15_inb i) hs rfl (congrArg (16 * ·) e) rfl⟩
  | ⟨3, _⟩, ⟨2, _⟩, e => exact ⟨_, List.mem_of_getElem? (i := 17) rfl, slot_mem (k0_off16 i) (k0_off16_inb i) hs rfl (congrArg (16 * ·) e) rfl⟩
  | ⟨3, _⟩, ⟨3, _⟩, e => exact ⟨_, List.mem_of_getElem? (i := 16) rfl, slot_mem (k0_off17 i) (k0_off17_inb i) hs rfl (congrArg (16 * ·) e) rfl⟩
  | ⟨4, _⟩, ⟨0, _⟩, e => exact ⟨_, List.mem_of_getElem? (i := 15) rfl, slot_mem (k0_off18 i) (k0_off18_inb i) hs rfl (congrArg (16 * ·) e) rfl⟩
  | ⟨4, _⟩, ⟨1, _⟩, e => exact ⟨_, List.mem_of_getElem? (i := 14) rfl, slot_mem (k0_off19 i) (k0_off19_inb i) hs rfl (congrArg (16 * ·) e) rfl⟩
  | ⟨4, _⟩, ⟨2, _⟩, e => exact ⟨_, List.mem_of_getElem? (i := 13) rfl, slot_mem (k0_off20 i) (k0_off20_inb i) hs rfl (congrArg (16 * ·) e) rfl⟩
  | ⟨4, _⟩, ⟨3, _⟩, e => exact ⟨_, List.mem_of_getElem? (i := 12) rfl, slot_mem (k0_off21 i) (k0_off21_inb i) hs rfl (congrArg (16 * ·) e) rfl⟩
  | ⟨5, _⟩, ⟨0, _⟩, e => exact ⟨_, List.mem_of_getElem? (i := 11) rfl, slot_mem (k0_off22 i) (k0_off22_inb i) hs rfl (congrArg (16 * ·) e) rfl⟩
  | ⟨5, _⟩, ⟨1, _⟩, e => exact ⟨_, List.mem_of_getElem? (i := 10) rfl, slot_mem (k0_off23 i) (k0_off23_inb i) hs rfl (congrArg (16 * ·) e) rfl⟩
  | ⟨5, _⟩, ⟨2, _⟩, e => exact ⟨_, List.mem_of_getElem? (i := 9) rfl, slot_mem (k0_off24 i) (k0_off24_inb i) hs rfl (congrArg (16 * ·) e) rfl⟩
  | ⟨5, _⟩, ⟨3, _⟩, e => exact ⟨_, List.mem_of_getElem? (i := 8) rfl, slot_mem (k0_off25 i) (k0_off25_inb i) hs rfl (congrArg (16 * ·) e) rfl⟩
  | ⟨6, _⟩, ⟨0, _⟩, e => exact ⟨_, List.mem_of_getElem? (i := 7) rfl, slot_mem (k0_off26 i) (k0_off26_inb i) hs rfl (congrArg (16 * ·) e) rfl⟩
  | ⟨6, _⟩, ⟨1, _⟩, e => exact ⟨_, List.mem_of_getElem? (i := 6) rfl, slot_mem (k0_off27 i) (k0_off27_inb i) hs rfl (congrArg (16 * ·) e) rfl⟩
  | ⟨6, _⟩, ⟨2, _⟩, e => exact ⟨_, List.mem_of_getElem? (i := 5) rfl, slot_mem (k0_off28 i) (k0_off28_inb i) hs rfl (congrArg (16 * ·) e) rfl⟩
  | ⟨6, _⟩, ⟨3, _⟩, e => exact ⟨_, List.mem_of_getElem? (i := 4) rfl, slot_mem (k0_off29 i) (k0_off29_inb i) hs rfl (congrArg (16 * ·) e) rfl⟩
  | ⟨7, _⟩, ⟨0, _⟩, e => exact ⟨_, List.mem_of_getElem? (i := 3) rfl, slot_mem (k0_off30 i) (k0_off30_inb i) hs rfl (congrArg (16 * ·) e) rfl⟩
  | ⟨7, _⟩, ⟨1, _⟩, e => exact ⟨_, List.mem_of_getElem? (i := 2) rfl, slot_mem (k0_off31 i) (k0_off31_inb i) hs rfl (congrArg (16 * ·) e) rfl⟩
  | ⟨7, _⟩, ⟨2, _⟩, e => exact ⟨_, List.mem_of_getElem? (i := 1) rfl, slot_mem (k0_off32 i) (k0_off32_inb i) hs rfl (congrArg (16 * ·) e) rfl⟩
  | ⟨7, _⟩, ⟨3, _⟩, e => exact ⟨_, List.mem_of_getElem? (i := 0) rfl, slot_mem (k0_off33 i) (k0_off33_inb i) hs rfl (congrArg (16 * ·) e) rfl⟩

/-- The four buffers that the body writes, as the pieces written into them. -/
theorem written : (kernelRun (F := Ideal) c i M1 h1 M2 h2 M3 h3 M4 h4 M5 h5 f1 f3 f4 f5).1
    = (M2.view.writes (Elt Ideal) M2.view.junk (kernelRun.sl.H2_5 c i M3 f3),
      M3.view.writes (Elt Ideal) f3 (slotPieces c i M1 M4 M5 f1 f4 f5),
      M4.view.writes (Elt Ideal) M4.view.junk (kernelRun.sl.H4_4 c i M1 M4 M5 f1 f4 f5),
      M5.view.writes (Elt Ideal) M5.view.junk (kernelRun.sl.H5_1 c M1 f1)) := by
  unfold kernelRun
  dsimp only

/-- The slot written at point `t` holds the point's eight rows. -/
theorem slot_after (H : Start w t c i M1 M4 M5 f1 f4 f5) {s : Fin 2} (hs : k0_off2 i 0 = s.val) (r : Fin 8) (b : Fin 64) (j : Fin 128) :
    M3.view.read (Elt Ideal) (kernelRun (F := Ideal) c i M1 h1 M2 h2 M3 h3 M4 h4 M5 h5 f1 f3 f4 f5).1.2.1 (ix4 s r b j)
      = Spec.T (w b) (8 * t + r.val) (j.val + 1) := by
  rw [written]
  dsimp only
  refine (View.read_writes_apply_of_pieces M3.view f3 (slotF w t) (slotPieces c i M1 M4 M5 f1 f4 f5) (slot_agree H) (ix4 s r b j) ?_).trans ?_
  · exact slot_cover hs r b j
  · unfold slotF
    rfl

/-! ## The last row and its weights -/

theorem quarter_piece {G : S64x128.Idx → EReal} {q : Fin 4} {X : Quarter} (hX : ∀ (p : Fin 16) (j : Fin 128), X (ix2 p j) = G (ix2 (tb q p) j))
    (inb : ∀ a, (![16 * q.val, 0] : Fin 2 → ℕ) a + S16x128.size a ≤ S64x128.size a)
    (x : (Rect.unit (s := S64x128) ![16 * q.val, 0] S16x128.size inb).shape.Idx) :
    shapeCast S16x128 X shapeCasts_S16x128_S16x128 x = G ((Rect.unit (s := S64x128) ![16 * q.val, 0] S16x128.size inb).emb x) := by
  obtain ⟨p, j, rfl⟩ : ∃ (p : Fin 16) (j : Fin 128), x = ix2 p j := ⟨x 0, x 1, eq_ix2 x⟩
  rw [shapeCast_self]
  refine (hX p j).trans (congrArg G (funext fun a => Fin.ext ?_))
  match a with
  | ⟨0, _⟩ => show 16 * q.val + p.val = 16 * q.val + 1 * p.val; omega
  | ⟨1, _⟩ => show j.val = 0 + 1 * j.val; omega

theorem quarter_mem (q : ℕ) (inb : ∀ a, (![16 * q, 0] : Fin 2 → ℕ) a + S16x128.size a ≤ S64x128.size a) (b : Fin 64) (j : Fin 128)
    (hq : q = b.val / 16) : ix2 b j ∈ (Rect.unit (s := S64x128) ![16 * q, 0] S16x128.size inb).set := by
  rw [Rect.mem_set_unit]
  intro a
  match a with
  | ⟨0, _⟩ => show 16 * q ≤ b.val ∧ b.val < 16 * q + 16; omega
  | ⟨1, _⟩ => show 0 ≤ j.val ∧ j.val < 0 + 128; omega

/-- What the buffer of the last row ends with. -/
def rowF (w : Fin 64 → ℕ → ℕ → EReal) (t : ℕ) : S64x128.Idx → EReal :=
  fun y => Spec.T (w ⟨(y 0).val, (y 0).isLt⟩) (8 * t + 7) ((y 1).val + 1)

theorem row_agree (H : Start w t c i M1 M4 M5 f1 f4 f5) :
    ∀ p ∈ kernelRun.sl.H4_4 c i M1 M4 M5 f1 f4 f5, ∀ x : p.1.shape.Idx, p.2 x = rowF w t (p.1.emb x) :=
  List.forall_mem_cons.2 ⟨quarter_piece (G := rowF w t) (q := 3) H.row7_3 inb_S64x128_S16x128_48_0,
  List.forall_mem_cons.2 ⟨quarter_piece (G := rowF w t) (q := 2) H.row7_2 inb_S64x128_S16x128_32_0,
  List.forall_mem_cons.2 ⟨quarter_piece (G := rowF w t) (q := 1) H.row7_1 inb_S64x128_S16x128_16_0,
  List.forall_mem_cons.2 ⟨quarter_piece (G := rowF w t) (q := 0) H.row7_0 inb_S64x128_S16x128_0_0,
  fun _ h => absurd h List.not_mem_nil⟩⟩⟩⟩

/-- The last row of the point is kept. -/
theorem row_after (H : Start w t c i M1 M4 M5 f1 f4 f5) (b : Fin 64) (j : Fin 128) :
    M4.view.read (Elt Ideal) (kernelRun (F := Ideal) c i M1 h1 M2 h2 M3 h3 M4 h4 M5 h5 f1 f3 f4 f5).1.2.2.1 (ix2 b j)
      = Spec.T (w b) (8 * t + 7) (j.val + 1) := by
  rw [written]
  exact View.read_writes_apply_of_pieces M4.view _ (rowF w t) (kernelRun.sl.H4_4 c i M1 M4 M5 f1 f4 f5) (row_agree H) (ix2 b j) (by
    obtain ⟨q, hq'⟩ : ∃ q : Fin 4, q.val = b.val / 16 := ⟨⟨b.val / 16, by omega⟩, rfl⟩
    match q, hq' with
    | ⟨0, _⟩, e => exact ⟨_, List.mem_of_getElem? (i := 3) rfl, quarter_mem 0 inb_S64x128_S16x128_0_0 b j e⟩
    | ⟨1, _⟩, e => exact ⟨_, List.mem_of_getElem? (i := 2) rfl, quarter_mem 1 inb_S64x128_S16x128_16_0 b j e⟩
    | ⟨2, _⟩, e => exact ⟨_, List.mem_of_getElem? (i := 1) rfl, quarter_mem 2 inb_S64x128_S16x128_32_0 b j e⟩
    | ⟨3, _⟩, e => exact ⟨_, List.mem_of_getElem? (i := 0) rfl, quarter_mem 3 inb_S64x128_S16x128_48_0 b j e⟩)

/-- So are its weights. -/
theorem wrow_after (H : Start w t c i M1 M4 M5 f1 f4 f5) (b : Fin 64) (j : Fin 128) :
    M5.view.read (Elt Ideal) (kernelRun (F := Ideal) c i M1 h1 M2 h2 M3 h3 M4 h4 M5 h5 f1 f3 f4 f5).1.2.2.2 (ix2 b j)
      = w b (8 * t + 7) j.val := by
  rw [written]
  refine View.read_writes_apply_of_pieces M5.view _ (fun y : S64x128.Idx => w ⟨(y 0).val, (y 0).isLt⟩ (8 * t + 7) (y 1).val)
    (kernelRun.sl.H5_1 c M1 f1) (List.forall_mem_cons.2 ⟨fun x => ?_, fun _ h => absurd h List.not_mem_nil⟩) (ix2 b j)
    ⟨_, List.mem_of_getElem? (i := 0) rfl, ?_⟩
  · obtain ⟨p, j, rfl⟩ : ∃ (p : Fin 64) (j : Fin 128), x = ix2 p j := ⟨x 0, x 1, eq_ix2 x⟩
    show k0_pay5 (kernelRun.sl.v50 c M1 f1) (ix2 p j) = _
    unfold k0_pay5
    dsimp only
    rw [shapeCast_self]
    refine (shapeCast_1ab_ab_apply _ _ p j).trans ?_
    rw [extractStridedSlice_apply _ _ _ _ (ix3 (7 : Fin 8) p j) (fun a => by
      match a with
      | ⟨0, _⟩ => rfl
      | ⟨1, _⟩ => show p.val = 0 + p.val; omega
      | ⟨2, _⟩ => show j.val = 0 + j.val; omega), H.wts]
    have e0 : ((Rect.unit (s := S64x128) ![0, 0] S64x128.size inb_S64x128_S64x128_0_0).emb (ix2 p j) 0).val = p.val := by
      show 0 + 1 * p.val = p.val; omega
    have e1 : ((Rect.unit (s := S64x128) ![0, 0] S64x128.size inb_S64x128_S64x128_0_0).emb (ix2 p j) 1).val = j.val := by
      show 0 + 1 * j.val = j.val; omega
    show _ = w ⟨((Rect.unit (s := S64x128) ![0, 0] S64x128.size inb_S64x128_S64x128_0_0).emb (ix2 p j) 0).val, _⟩ (8 * t + 7)
      ((Rect.unit (s := S64x128) ![0, 0] S64x128.size inb_S64x128_S64x128_0_0).emb (ix2 p j) 1).val
    rw [e1]
    exact congrArg (fun b => w b (8 * t + 7) j.val) (Fin.ext e0.symm)
  · show ix2 b j ∈ (Rect.unit (s := S64x128) ![0, 0] S64x128.size inb_S64x128_S64x128_0_0).set
    rw [Rect.mem_set_unit]
    intro a
    match a with
    | ⟨0, _⟩ => show 0 ≤ b.val ∧ b.val < 0 + 64; omega
    | ⟨1, _⟩ => show 0 ≤ j.val ∧ j.val < 0 + 128; omega

/-! ## The output block -/

/-- What the body reads from the rows' buffer for the output block. -/
theorem read_slot {s : Fin 2} (hs : k0_off1 i 0 = s.val) (r : Fin 8) (b : Fin 64) (j : Fin 128) :
    kernelRun.sl.v24 c i M3 f3 (ix3 r b j) = M3.view.read (Elt Ideal) f3 (ix4 s r b j) := by
  unfold kernelRun.sl.v24
  refine (shapeCast_1abc_abc_apply _ _ r b j).trans ?_
  rw [View.readAt_apply]
  refine congrArg _ (funext fun a => Fin.ext ?_)
  match a with
  | ⟨0, _⟩ => show k0_off1 i 0 + 1 * 0 = s.val; omega
  | ⟨1, _⟩ => show 0 + 1 * r.val = r.val; omega
  | ⟨2, _⟩ => show 0 + 1 * b.val = b.val; omega
  | ⟨3, _⟩ => show 0 + 1 * j.val = j.val; omega

/-- What the output block ends with at point `t ≥ 1`: the eight rows of the point before, border included. -/
def outF (w : Fin 64 → ℕ → ℕ → EReal) (t : ℕ) : S64x8x129.Idx → EReal :=
  fun y => Spec.T (w ⟨(y 0).val, (y 0).isLt⟩) (8 * (t - 1) + (y 1).val) (y 2).val

/-- The piece of quarter `q`. -/
theorem out_piece {q : Fin 4} {V : FVec Ideal S8x64x128 .f32}
    (hV : ∀ (r : Fin 8) (b : Fin 64) (j : Fin 128), V (ix3 r b j) = Spec.T (w b) (8 * (t - 1) + r.val) (j.val + 1))
    (hs : (⟨3, ![8, 64, 128]⟩ : Shape).Slices ![0, 16 * q.val, 0] S8x16x128)
    (inb : ∀ a, (![16 * q.val, 0, 1] : Fin 3 → ℕ) a + S16x8x128.size a ≤ S64x8x129.size a)
    (x : (Rect.unit (s := S64x8x129) ![16 * q.val, 0, 1] S16x8x128.size inb).shape.Idx) :
    transpose S16x8x128 [1, 0, 2] (extractStridedSlice S8x16x128 ![0, 16 * q.val, 0] V hs) transposes_S8x16x128_p1_0_2_S16x8x128 x
      = outF w t ((Rect.unit (s := S64x8x129) ![16 * q.val, 0, 1] S16x8x128.size inb).emb x) := by
  obtain ⟨p, r, j, rfl⟩ : ∃ (p : Fin 16) (r : Fin 8) (j : Fin 128), x = ix3 p r j := ⟨x 0, x 1, x 2, eq_ix3 x⟩
  rw [transpose_apply _ _ _ _ (ix3 r p j) (fun a => by
    match a with
    | ⟨0, _⟩ => rfl
    | ⟨1, _⟩ => rfl
    | ⟨2, _⟩ => rfl)]
  rw [extractStridedSlice_apply _ _ _ _ (ix3 r (tb q p) j) (fun a => by
    match a with
    | ⟨0, _⟩ => show r.val = 0 + r.val; omega
    | ⟨1, _⟩ => show 16 * q.val + p.val = 16 * q.val + p.val; omega
    | ⟨2, _⟩ => show j.val = 0 + j.val; omega), hV]
  have e0 : ((Rect.unit (s := S64x8x129) ![16 * q.val, 0, 1] S16x8x128.size inb).emb (ix3 p r j) 0).val = 16 * q.val + p.val := by
    show 16 * q.val + 1 * p.val = 16 * q.val + p.val; omega
  have e1 : ((Rect.unit (s := S64x8x129) ![16 * q.val, 0, 1] S16x8x128.size inb).emb (ix3 p r j) 1).val = r.val := by
    show 0 + 1 * r.val = r.val; omega
  have e2 : ((Rect.unit (s := S64x8x129) ![16 * q.val, 0, 1] S16x8x128.size inb).emb (ix3 p r j) 2).val = j.val + 1 := by
    show 1 + 1 * j.val = j.val + 1; omega
  unfold outF
  rw [e2, e1]
  congr 2
  exact Fin.ext e0.symm

theorem out_mem (q : ℕ) (inb : ∀ a, (![16 * q, 0, 1] : Fin 3 → ℕ) a + S16x8x128.size a ≤ S64x8x129.size a) (b : Fin 64) (r : Fin 8) (j : Fin 129)
    (hj : j.val ≠ 0) (hq : q = b.val / 16) : ix3 b r j ∈ (Rect.unit (s := S64x8x129) ![16 * q, 0, 1] S16x8x128.size inb).set := by
  rw [Rect.mem_set_unit]
  intro a
  match a with
  | ⟨0, _⟩ => show 16 * q ≤ b.val ∧ b.val < 16 * q + 16; omega
  | ⟨1, _⟩ => show 0 ≤ r.val ∧ r.val < 0 + 8; omega
  | ⟨2, _⟩ => show 1 ≤ j.val ∧ j.val < 1 + 128; omega

/-- The border column of the block. -/
theorem border_piece (u : Fin cfg0.N) (hu : u.val ≠ 0)
    (x : (Rect.unit (s := S64x8x129) ![0, 0, 0] S64x8x1.size inb_S64x8x129_S64x8x1_0_0_0).shape.Idx) :
    k0_pay11 (F := Ideal) (BitVec.ofNat 32 (grid0.coords u 0).val) x
      = outF w u.val ((Rect.unit (s := S64x8x129) ![0, 0, 0] S64x8x1.size inb_S64x8x129_S64x8x1_0_0_0).emb x) := by
  obtain ⟨b, r, z, rfl⟩ : ∃ (b : Fin 64) (r : Fin 8) (z : Fin 1), x = ix3 b r z := ⟨x 0, x 1, x 2, eq_ix3 x⟩
  have e1 : ((Rect.unit (s := S64x8x129) ![0, 0, 0] S64x8x1.size inb_S64x8x129_S64x8x1_0_0_0).emb (ix3 b r z) 1).val = r.val := by
    show 0 + 1 * r.val = r.val; omega
  have e2 : ((Rect.unit (s := S64x8x129) ![0, 0, 0] S64x8x1.size inb_S64x8x129_S64x8x1_0_0_0).emb (ix3 b r z) 2).val = 0 := by
    show 0 + 1 * z.val = 0; omega
  unfold outF
  rw [e2, e1]
  show Scalar.select (Scalar.andi (Scalar.cmpi .eq (BitVec.ofNat 32 (grid0.coords u 0).val) 1#32) (Scalar.cmpi .eq (BitVec.ofNat 32 (0 * 8 + r.val)) 0#32)) zro neg = _
  rw [Nat.zero_mul, Nat.zero_add, corner_flag]
  by_cases h : u.val = 1 ∧ r.val = 0
  · rw [if_pos h, show 8 * (u.val - 1) + r.val = 0 by omega]; rfl
  · rw [if_neg h]
    obtain ⟨n, hn⟩ : ∃ n, 8 * (u.val - 1) + r.val = n + 1 := ⟨8 * (u.val - 1) + r.val - 1, by omega⟩
    rw [hn, Spec.T_succ_zero]; rfl

theorem out_agree (u : Fin cfg0.N) (hu : u.val ≠ 0)
    (hV : ∀ (r : Fin 8) (b : Fin 64) (j : Fin 128), kernelRun.sl.v24 c (grid0.coords u) M3 f3 (ix3 r b j) = Spec.T (w b) (8 * (u.val - 1) + r.val) (j.val + 1)) :
    ∀ p ∈ kernelRun.sl.H2_5 c (grid0.coords u) M3 f3, ∀ x : p.1.shape.Idx, p.2 x = outF w u.val (p.1.emb x) :=
  List.forall_mem_cons.2 ⟨border_piece u hu,
  List.forall_mem_cons.2 ⟨out_piece (q := 3) hV slices_S8x64x128_o0_48_0_S8x16x128 inb_S64x8x129_S16x8x128_48_0_1,
  List.forall_mem_cons.2 ⟨out_piece (q := 2) hV slices_S8x64x128_o0_32_0_S8x16x128 inb_S64x8x129_S16x8x128_32_0_1,
  List.forall_mem_cons.2 ⟨out_piece (q := 1) hV slices_S8x64x128_o0_16_0_S8x16x128 inb_S64x8x129_S16x8x128_16_0_1,
  List.forall_mem_cons.2 ⟨out_piece (q := 0) hV slices_S8x64x128_o0_0_0_S8x16x128 inb_S64x8x129_S16x8x128_0_0_1,
  fun _ h => absurd h List.not_mem_nil⟩⟩⟩⟩⟩

/-- At a point `t ≥ 1` whose other slot holds the rows of the point before, the output block ends with those rows. -/
theorem out_after (u : Fin cfg0.N) (hu : u.val ≠ 0) {s : Fin 2} (hs : k0_off1 (grid0.coords u) 0 = s.val)
    (hr : ∀ (r : Fin 8) (b : Fin 64) (j : Fin 128), M3.view.read (Elt Ideal) f3 (ix4 s r b j) = Spec.T (w b) (8 * (u.val - 1) + r.val) (j.val + 1))
    (b : Fin 64) (r : Fin 8) (j : Fin 129) :
    M2.view.read (Elt Ideal) (kernelRun (F := Ideal) c (grid0.coords u) M1 h1 M2 h2 M3 h3 M4 h4 M5 h5 f1 f3 f4 f5).1.1 (ix3 b r j)
      = Spec.T (w b) (8 * (u.val - 1) + r.val) j.val := by
  have hV : ∀ (r : Fin 8) (b : Fin 64) (j : Fin 128), kernelRun.sl.v24 c (grid0.coords u) M3 f3 (ix3 r b j) = Spec.T (w b) (8 * (u.val - 1) + r.val) (j.val + 1) :=
    fun r b j => (read_slot hs r b j).trans (hr r b j)
  rw [written]
  refine View.read_writes_apply_of_pieces M2.view _ (outF w u.val) (kernelRun.sl.H2_5 c (grid0.coords u) M3 f3)
    (out_agree u hu hV) (ix3 b r j) ?_
  by_cases hj : j.val = 0
  · refine ⟨_, List.mem_of_getElem? (i := 0) rfl, ?_⟩
    show ix3 b r j ∈ (Rect.unit (s := S64x8x129) ![0, 0, 0] S64x8x1.size inb_S64x8x129_S64x8x1_0_0_0).set
    rw [Rect.mem_set_unit]
    intro a
    match a with
    | ⟨0, _⟩ => show 0 ≤ b.val ∧ b.val < 0 + 64; omega
    | ⟨1, _⟩ => show 0 ≤ r.val ∧ r.val < 0 + 8; omega
    | ⟨2, _⟩ => show 0 ≤ j.val ∧ j.val < 0 + 1; omega
  · obtain ⟨q, hq'⟩ : ∃ q : Fin 4, q.val = b.val / 16 := ⟨⟨b.val / 16, by omega⟩, rfl⟩
    match q, hq' with
    | ⟨0, _⟩, e => exact ⟨_, List.mem_of_getElem? (i := 4) rfl, out_mem 0 inb_S64x8x129_S16x8x128_0_0_1 b r j hj e⟩
    | ⟨1, _⟩, e => exact ⟨_, List.mem_of_getElem? (i := 3) rfl, out_mem 1 inb_S64x8x129_S16x8x128_16_0_1 b r j hj e⟩
    | ⟨2, _⟩, e => exact ⟨_, List.mem_of_getElem? (i := 2) rfl, out_mem 2 inb_S64x8x129_S16x8x128_32_0_1 b r j hj e⟩
    | ⟨3, _⟩, e => exact ⟨_, List.mem_of_getElem? (i := 1) rfl, out_mem 3 inb_S64x8x129_S16x8x128_48_0_1 b r j hj e⟩

end Cert.KernelIdeal.Hand

end
-- ==== Proof.Point.lean ====
/-
  What one point of the launch does, and the array after the last point.

  The weights at point `t` are the argument's block `min t 31`. Before point `n ≥ 1` the slot written last holds rows `8(n-1)` to
  `8(n-1)+7` of every table, and the two row buffers hold row `8n-1` and its weights (`Inv`); the output block left at point
  `t ≥ 1` holds rows `8(t-1)` to `8(t-1)+7`, border column included (`Rl`). The blocks written back are those of points 1 to 33,
  the last of them cut to its one row inside the array, so that the array ends as the recurrence's table (`final_v0`).
-/
module

public import proofs.«01_k».proof.Proof.Launch
public import proofs.«01_k».proof.Proof.Writes
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat RDat)

variable (m : (ℓ : Loc nD τ sig) → Buf (Elt Ideal) ℓ)

/-- The argument on core `c`. -/
abbrev arg (c : Dev nD) : (⟨3, ![64, 256, 128]⟩ : Shape).Idx → EReal := m ((c : Thread nD τ).loc main_arg0)

/-! ## The two statements -/

/-- The slot that holds the rows of point `n - 1`. -/
def slot (n : ℕ) : Fin 2 := ⟨(n - 1) % 2, Nat.mod_lt _ (by norm_num)⟩

/-- The scratch before point `n ≥ 1`. -/
def Inv (c : Dev nD) (n : ℕ) (f3 : Bf (F := Ideal) c sc0) (f4 : Bf (F := Ideal) c sc1) (f5 : Bf (F := Ideal) c sc2) : Prop :=
  (∀ (r : Fin 8) (b : Fin 64) (j : Fin 128),
      sc0.view.read (Elt Ideal) f3 (ix4 (slot n) r b j) = Spec.T (Spec.wk (arg m c) b) (8 * (n - 1) + r.val) (j.val + 1))
    ∧ (∀ (b : Fin 64) (j : Fin 128), sc1.view.read (Elt Ideal) f4 (ix2 b j) = Spec.T (Spec.wk (arg m c) b) (8 * n - 1) (j.val + 1))
    ∧ ∀ (b : Fin 64) (j : Fin 128), sc2.view.read (Elt Ideal) f5 (ix2 b j) = Spec.wk (arg m c) b (8 * n - 1) j.val

/-- The output block after point `t ≥ 1`. -/
def Rl (c : Dev nD) (t : Fin cfg0.N) (X : S64x8x129.Idx → Elt Ideal .f32) : Prop :=
  t.val ≠ 0 → ∀ (b : Fin 64) (r : Fin 8) (j : Fin 129), X (ix3 b r j) = Spec.T (Spec.wk (arg m c) b) (8 * (t.val - 1) + r.val) j.val

/-! ## The weights of a point -/

theorem index_in : ∀ t : Fin cfg0.N, win0_0.index t = ![0, min t.val 31, 0] := by decide +kernel
theorem index_out : ∀ t : Fin cfg0.N, win0_1.index t = ![0, t.val - 1, 0] := by decide +kernel
theorem flush_out : ∀ t : Fin cfg0.N, win0_1.flush t = true → t.val ≠ 0 := by decide +kernel

/-- The input block at point `t`: rows `8·min t 31` to `8·min t 31 + 7` of the argument. -/
theorem iblk_apply (c : Dev nD) (t : Fin cfg0.N) (b : Fin 64) (r : Fin 8) (j : Fin 128) :
    iblk m c 0 t (ix3 b r j) = arg m c (ix3 b ⟨8 * min t.val 31 + r.val, by omega⟩ j) := by
  have h : ∀ a, ((win0_0.rect t).emb (ix3 b r j) a : ℕ) = win0_0.index t a * win0_0.size a + (ix3 b r j : S64x8x128.Idx) a :=
    fun a => win0_0.rect_emb_val t (ix3 b r j) a
  rw [index_in] at h
  unfold iblk
  rw [View.read_apply]
  refine congrArg (arg m c) (funext fun a => Fin.ext ?_)
  match a with
  | ⟨0, _⟩ => refine (h 0).trans ?_; show 0 * 64 + b.val = b.val; omega
  | ⟨1, _⟩ => refine (h 1).trans ?_; show min t.val 31 * 8 + r.val = 8 * min t.val 31 + r.val; omega
  | ⟨2, _⟩ => refine (h 2).trans ?_; show 0 * 128 + j.val = j.val; omega

/-- The weights the body computes from a block: 1.5 times its entries, rows first. -/
theorem weights_apply {c : Dev nD} {M1 : Memref sig .tc .vmem S64x8x128 .f32} (f1 : Bf (F := Ideal) c M1) (r : Fin 8) (b : Fin 64) (j : Fin 128) :
    kernelRun.sl.v50 c M1 f1 (ix3 r b j) = Spec.alpha * M1.view.read (Elt Ideal) f1 (ix3 b r j) := by
  have e : kernelRun.sl.v50 c M1 f1 = k0_pay12 (View.readAt (Elt Ideal) M1.view (Rect.unit (s := S64x8x128) ![0, 0, 0] S64x8x128.size inb_S64x8x128_S64x8x128_0_0_0).toLoadRect f1) := rfl
  rw [e]
  unfold k0_pay12
  dsimp only
  show Spec.alpha * transpose S8x64x128 [1, 0, 2] _ _ (ix3 r b j) = _
  rw [transpose_apply _ _ _ _ (ix3 b r j) (fun a => by match a with | ⟨0, _⟩ => rfl | ⟨1, _⟩ => rfl | ⟨2, _⟩ => rfl), View.readAt_apply]
  refine congrArg (fun y => Spec.alpha * M1.view.read (Elt Ideal) f1 y) (funext fun a => Fin.ext ?_)
  match a with
  | ⟨0, _⟩ => show 0 + 1 * b.val = b.val; omega
  | ⟨1, _⟩ => show 0 + 1 * r.val = r.val; omega
  | ⟨2, _⟩ => show 0 + 1 * j.val = j.val; omega

/-! ## The point -/

theorem start (c : Dev nD) (t : Fin cfg0.N) (f1 : Bf (F := Ideal) c (ms0 t)) (f3 : Bf (F := Ideal) c sc0) (f4 : Bf (F := Ideal) c sc1)
    (f5 : Bf (F := Ideal) c sc2) (hf1 : (ms0 t).view.read (Elt Ideal) f1 = iblk m c 0 t) (hI : t.val ≠ 0 → Inv m c t.val f3 f4 f5) :
    Start (Spec.wk (arg m c)) t.val c (grid0.coords t) (ms0 t) sc1 sc2 f1 f4 f5 where
  first := first_flag t
  wts r b j := by
    have ht : t.val < 34 := t.isLt
    rw [weights_apply, hf1, iblk_apply]
    unfold Spec.wk
    rw [show (8 * t.val + r.val) / 8 = t.val by omega, show (8 * t.val + r.val) % 8 = r.val by omega]
    exact (Spec.wt_of_lt (arg m c) b ⟨8 * min t.val 31 + r.val, by omega⟩ j).symm
  row ht := (hI ht).2.1
  wrow ht := (hI ht).2.2

theorem step : Step m (Inv m) (Rl m) := fun c t f1 f3 f4 f5 hf1 hI => by
  have H := start m c t f1 f3 f4 f5 hf1 hI
  have hw : k0_off2 (grid0.coords t) 0 = (slot (t.val + 1)).val := slot_wr t
  refine ⟨⟨fun r b j => slot_after H hw r b j, fun b j => ?_, fun b j => ?_⟩, fun ht b r j => ?_⟩
  · rw [show 8 * (t.val + 1) - 1 = 8 * t.val + 7 by omega]
    exact row_after H b j
  · rw [show 8 * (t.val + 1) - 1 = 8 * t.val + 7 by omega]
    exact wrow_after H b j
  · exact out_after t ht (s := slot t.val) (slot_rd t ht) (hI ht).1 b r j

/-! ## The array -/

/-- The recurrence's tables over 1.5 times `x`. -/
def table (x : (⟨3, ![64, 256, 128]⟩ : Shape).Idx → EReal) : (⟨3, ![64, 257, 129]⟩ : Shape).Idx → EReal :=
  fun y => Spec.T (Spec.wt x (y 0)) (y 1).val (y 2).val

variable {m}

/-- After the run the result array holds the tables. -/
theorem final_v0 {r : PUnit × MemSt nD τ sig (Elt Ideal)}
    (h : RDat.FramePost (cfgs 0) (fun c => rdat m (Inv m) (Rl m) c) (V m) r) (c : Dev nD) :
    r.2.mem ((c : Thread nD τ).loc main_v0) = table (arg m c) := by
  obtain ⟨after, hL, hA⟩ := h.exists_exact c
  have hR : ∀ u : Fin cfg0.N, win0_1.flush u = true → Rl m c u (after 1 u) := fun u hu =>
    (dat m (Inv m) c).toRRel_leaves (fgt := marked) (Rl := RlW (Rl m) c) (w := 1) rfl (hL 1 u hu)
  refine (hA 1).trans ?_
  refine ((rdat m (Inv m) (Rl m) c).withAfter after).arrAt_eq_of_covers (cfg := cfg0) 1 (table (arg m c)) (by decide +kernel) (fun t hf y => ?_)
  have ht := flush_out t hf
  have h : ∀ a, ((win0_1.rect t).emb y a : ℕ) = win0_1.index t a * win0_1.size a + (y a : ℕ) := fun a => win0_1.rect_emb_val t y a
  rw [index_out] at h
  have e0 : ((win0_1.rect t).emb y 0 : ℕ) = (y 0 : ℕ) := (h 0).trans (by show 0 * 64 + (y 0 : ℕ) = _; omega)
  have e1 : ((win0_1.rect t).emb y 1 : ℕ) = 8 * (t.val - 1) + (y 1 : ℕ) := (h 1).trans (by show (t.val - 1) * 8 + (y 1 : ℕ) = _; omega)
  have e2 : ((win0_1.rect t).emb y 2 : ℕ) = (y 2 : ℕ) := (h 2).trans (by show 0 * 129 + (y 2 : ℕ) = _; omega)
  have hlt : 8 * (t.val - 1) + (y 1 : ℕ) < 257 := e1 ▸ ((win0_1.rect t).emb y 1).isLt
  let z : S64x8x129.Idx := win0_1.xinj (grid0.coords t) y
  have hz : after 1 t z = Spec.T (Spec.wk (arg m c) (z 0)) (8 * (t.val - 1) + (z 1).val) (z 2).val :=
    (congrArg (after 1 t) (eq_ix3 z)).trans (hR t hf ht (z 0) (z 1) (z 2))
  refine hz.trans ?_
  refine (Spec.T_wk (arg m c) (z 0) (8 * (t.val - 1) + (z 1).val) (z 2).val hlt).trans ?_
  unfold table
  have hb : z 0 = (win0_1.rect t).emb y 0 := Fin.ext e0.symm
  exact congr (congr (congrArg (fun b => Spec.T (Spec.wt (arg m c) b)) hb) e1.symm) e2.symm

end Cert.KernelIdeal.Hand

end
-- ==== Proof.RefValue.lean ====
/-
  What the reference leaves: after its 383 sweeps the result buffer holds the recurrence's table over 1.5 times the argument.

  The generated run (Gen/ReferenceIdeal/Run.lean) says that the result is the carried table after 383 trips. One trip is read
  at an entry here: the slices, the pad and the scatter that sets entry (0, 0) of each table.
-/
module

public import proofs.«01_k».proof.Proof.Gen.ReferenceIdeal.Run
public import proofs.«01_k».proof.Proof.Spec
public import Idealize.ShloMosaic.Lib.ValueIdx
public import Idealize.ShloMosaic.Lib.Routing.OpsSet
public import Idealize.ShloMosaic.Lib.Routing.OpsPair
public import Idealize.ShloMosaic.Lib.KernelVsHost
public import Idealize.ShloMosaic.Lib.Pipeline.Value

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.ValueIdx
open Idealize.SL.Sem
open Idealize.ShloMosaic.StableHlo
open Cert.Spec

/-! ## The scatter -/

/-- Setting entry (0, 0) of each table to `z`. -/
theorem scatter_corner (x : S64x257x129.Idx → EReal) (idx : IVec S2 32) (hidx : ∀ k, idx k = 0#32) (upd : S64.Idx → EReal) (z : EReal)
    (hu : ∀ k, upd k = z) (b : Fin 64) (i : Fin 257) (j : Fin 129) :
    Host.scatter scatter_S64x257x129_S2_S64_0_12_12_0 (fun _ b => b) x idx upd (ix3 b i j)
      = if i.val = 0 ∧ j.val = 0 then z else x (ix3 b i j) := by
  have hstart : ∀ (k : S64.Idx) (a : Fin 3), scatter_S64x257x129_S2_S64_0_12_12_0.start k idx a = 0 := fun k a => by
    unfold ScatterDims.start
    split
    · rw [hidx]; rfl
    · rfl
  have hkept : scatter_S64x257x129_S2_S64_0_12_12_0.sKept = [(0 : Fin 3)] := by
    show Shape.kept S64x257x129 [1, 2] = _
    rfl
  have hwin : ∀ (k : S64.Idx) (a : Fin 3), scatter_S64x257x129_S2_S64_0_12_12_0.window k a = if a = 0 then (k 0).val else 0 := fun k a => by
    unfold ScatterDims.window
    by_cases ha : a = 0
    · subst ha
      rw [dif_pos (by rw [hkept]; exact List.mem_singleton_self _), if_pos rfl]
      exact congrArg (fun t => (k t).val) (Subsingleton.elim (α := Fin 1) _ 0)
    · rw [dif_neg (by rw [hkept]; simpa using ha), if_neg ha]
  have lands : ∀ k : S64.Idx, scatter_S64x257x129_S2_S64_0_12_12_0.resultIdx? k idx = some (ix3 b i j)
      ↔ (k 0).val = b.val ∧ i.val = 0 ∧ j.val = 0 := fun k => by
    rw [Routing.resultIdx?_eq_some]
    constructor
    · intro h
      have h0 := h (0 : Fin 3); have h1 := h (1 : Fin 3); have h2 := h (2 : Fin 3)
      rw [hstart, hwin] at h0 h1 h2
      have e0 : (((k 0).val : ℕ) : ℤ) = (b.val : ℤ) := by simpa using h0
      have e1 : (0 : ℤ) = (i.val : ℤ) := by simpa using h1
      have e2 : (0 : ℤ) = (j.val : ℤ) := by simpa using h2
      omega
    · rintro ⟨h0, h1, h2⟩ a
      rw [hstart, hwin]
      match a with
      | ⟨0, _⟩ => show (0 : ℤ) + (((k 0).val : ℕ) : ℤ) = (b.val : ℤ); omega
      | ⟨1, _⟩ => show (0 : ℤ) + ((0 : ℕ) : ℤ) = (i.val : ℤ); omega
      | ⟨2, _⟩ => show (0 : ℤ) + ((0 : ℕ) : ℤ) = (j.val : ℤ); omega
  by_cases h : i.val = 0 ∧ j.val = 0
  · rw [if_pos h]
    exact Routing.scatter_set_hit _ x idx upd _ _ (fun k _ => hu k) (ix1 b) ((lands _).2 ⟨rfl, h⟩)
  · rw [if_neg h]
    exact Routing.scatter_set_miss _ x idx upd _ fun k hk => h ((lands k).1 hk).2

/-- The two index words are zero. -/
theorem idx_zero (k : S2.Idx) :
    concatenate S2 0 [⟨S1, (broadcastInDim S1 ![] bcast_S_S1 (constantI S_ 32 0#32))⟩, ⟨S1, (broadcastInDim S1 ![] bcast_S_S1 (constantI S_ 32 0#32))⟩]
      concatenates_S1_S1_S2_d0 k = 0#32 := by
  rw [eq_ix1 k]
  generalize k 0 = q
  match q with
  | ⟨0, _⟩ => rfl
  | ⟨1, _⟩ => rfl

/-! ## One trip at an entry -/

abbrev Tab := S64x257x129.Idx → EReal

/-- The carried table and the carried weights of a valuation. -/
def tab (V : Valuation τ sig (Elt Ideal)) : Tab := V (Proc.devRef .tc main_v8_2)
def wts (V : Valuation τ sig (Elt Ideal)) : S64x256x128.Idx → EReal := V (Proc.devRef .tc main_v8_0)

/-- The sum of an entry of the table and its weight: above, and above to the left. -/
theorem v11_apply (V : Valuation τ sig (Elt Ideal)) (b : Fin 64) (i : Fin 256) (j : Fin 128) :
    res_main_while0b_v11 V (ix3 b i j) = tab V (ix3 b ⟨i.val, by omega⟩ ⟨j.val + 1, by omega⟩) + wts V (ix3 b i j) := by
  unfold res_main_while0b_v11
  rw [addf_apply, extractStridedSlice_apply _ _ _ _ (ix3 b (⟨i.val, by omega⟩ : Fin 257) (⟨j.val + 1, by omega⟩ : Fin 129)) (fun a => by
    match a with
    | ⟨0, _⟩ => show b.val = 0 + b.val; omega
    | ⟨1, _⟩ => show i.val = 0 + i.val; omega
    | ⟨2, _⟩ => show j.val + 1 = 1 + j.val; omega)]
  rfl

theorem v12_apply (V : Valuation τ sig (Elt Ideal)) (b : Fin 64) (i : Fin 256) (j : Fin 128) :
    res_main_while0b_v12 V (ix3 b i j) = tab V (ix3 b ⟨i.val, by omega⟩ ⟨j.val, by omega⟩) + wts V (ix3 b i j) := by
  unfold res_main_while0b_v12
  rw [addf_apply, extractStridedSlice_apply _ _ _ _ (ix3 b (⟨i.val, by omega⟩ : Fin 257) (⟨j.val, by omega⟩ : Fin 129)) (fun a => by
    match a with
    | ⟨0, _⟩ => show b.val = 0 + b.val; omega
    | ⟨1, _⟩ => show i.val = 0 + i.val; omega
    | ⟨2, _⟩ => show j.val = 0 + j.val; omega)]
  rfl

/-- The reference's select: a difference is never unordered with itself here, so the logaddexp is taken. -/
theorem lae_apply (x y d : FVec Ideal S64x256x128 .f32) (k : S64x256x128.Idx) (hd : d k = x k - y k) :
    select (cmpf .une d d) (addf x y) (addf (maximumf x y) (Host.log1p (Host.exp (Host.negf (Host.absf d))))) k = lae (x k) (y k) := by
  have hc : cmpf .une d d k = 0#1 := by
    show Ideal.cmp .une (d k) (d k) = 0#1
    show BitVec.ofBool (decide (d k ≠ d k)) = 0#1
    simp
  rw [select_apply, hc, select_zero]
  show max (x k) (y k) + Ideal.log1p (Ideal.exp (-(max (d k) (-(d k))))) = _
  rw [hd]; rfl

/-- One trip at an entry. -/
theorem step_apply (V : Valuation τ sig (Elt Ideal)) (b : Fin 64) (i : Fin 257) (j : Fin 129) :
    tab (STEP V) (ix3 b i j) = if h : i.val = 0 ∨ j.val = 0 then (if i.val = 0 ∧ j.val = 0 then zro else neg)
      else lae (tab V (ix3 b ⟨i.val - 1, by omega⟩ j) + wts V (ix3 b ⟨i.val - 1, by omega⟩ ⟨j.val - 1, by omega⟩))
        (tab V (ix3 b ⟨i.val - 1, by omega⟩ ⟨j.val - 1, by omega⟩) + wts V (ix3 b ⟨i.val - 1, by omega⟩ ⟨j.val - 1, by omega⟩)) := by
  unfold tab
  rw [STEP_main_v8_2]
  unfold step_main_v8_2
  rw [id_eq]
  refine (scatter_corner _ _ idx_zero _ zro (fun _ => rfl) b i j).trans ?_
  by_cases h : i.val = 0 ∨ j.val = 0
  · rw [dif_pos h]
    split
    · rfl
    · rcases h with h | h
      · rw [pad_apply_of_not_inside _ _ _ _ _ _ _ _ (1 : Fin 3) (fun hh => absurd hh.1 (by show ¬ (1 ≤ i.val); omega))]; rfl
      · rw [pad_apply_of_not_inside _ _ _ _ _ _ _ _ (2 : Fin 3) (fun hh => absurd hh.1 (by show ¬ (1 ≤ j.val); omega))]; rfl
  · rw [dif_neg h, if_neg (by omega)]
    have hi := i.isLt; have hj := j.isLt
    rw [pad_apply_of_inside _ _ _ _ _ _ _ _ (ix3 b (⟨i.val - 1, by omega⟩ : Fin 256) (⟨j.val - 1, by omega⟩ : Fin 128)) (fun a => by
      match a with
      | ⟨0, _⟩ => show b.val = 0 + b.val * 1; omega
      | ⟨1, _⟩ => show i.val = 1 + (i.val - 1) * 1; omega
      | ⟨2, _⟩ => show j.val = 1 + (j.val - 1) * 1; omega)]
    rw [lae_apply _ _ _ _ rfl, v11_apply, v12_apply]
    have ej : (⟨j.val - 1 + 1, by omega⟩ : Fin 129) = j := Fin.ext (by show j.val - 1 + 1 = j.val; omega)
    show lae (tab V (ix3 b _ ⟨j.val - 1 + 1, _⟩) + _) _ = _
    rw [ej]; rfl

/-! ## All the trips -/

variable (m : (ℓ : Loc nD τ sig) → Buf (Elt Ideal) ℓ)

/-- The argument on core `c`. -/
abbrev arg (c : Dev nD) : S64x256x128.Idx → EReal := m ((c.tc : Thread nD τ).loc main_arg0)

theorem entry_wts (c : Dev nD) : wts (entryContents preI m c) = mulf (broadcastInDim S64x256x128 ![] bcast_S_S64x256x128 (constant (F := Ideal) S_ .f32 0x3FC00000#32)) (arg m c) := by
  unfold wts
  rfl

theorem entry_tab (c : Dev nD) (b : Fin 64) (j : Fin 129) : tab (entryContents preI m c) (ix3 b (0 : Fin 257) j) = if j.val = 0 then zro else neg := by
  have e : tab (entryContents preI m c) = Host.scatter scatter_S64x257x129_S2_S64_0_12_12_0 (fun _ b => b)
      (broadcastInDim S64x257x129 ![] bcast_S_S64x257x129 (constant (F := Ideal) S_ .f32 0xE0AD78EC#32))
      (concatenate S2 0 [⟨S1, (broadcastInDim S1 ![] bcast_S_S1 (constantI S_ 32 0#32))⟩, ⟨S1, (broadcastInDim S1 ![] bcast_S_S1 (constantI S_ 32 0#32))⟩] concatenates_S1_S1_S2_d0)
      (broadcastInDim S64 ![] bcast_S_S64 (constant (F := Ideal) S_ .f32 0x00000000#32)) := by
    unfold tab
    rfl
  rw [e]
  refine (scatter_corner _ _ idx_zero _ zro (fun _ => rfl) b 0 j).trans ?_
  simp only [Fin.val_zero, true_and]
  rfl

theorem wts_iter (V : Valuation τ sig (Elt Ideal)) (n : ℕ) : wts (STEP^[n] V) = wts V := by
  induction n with
  | zero => rfl
  | succ n ih => rw [Function.iterate_succ_apply', ← ih]; exact STEP_main_v8_0 _

/-- The result: the recurrence's table over 1.5 times the argument. -/
theorem result_apply (c : Dev nD) (b : Fin 64) (i : Fin 257) (j : Fin 129) :
    tab (STEP^[383] (entryContents preI m c)) (ix3 b i j) = Spec.T (wt (arg m c) b) i.val j.val := by
  let M : ℕ → ℕ → ℕ → EReal := fun k i j => if h : i < 257 ∧ j < 129 then tab (STEP^[k] (entryContents preI m c)) (ix3 b ⟨i, h.1⟩ ⟨j, h.2⟩) else 0
  have hM : ∀ k (i : Fin 257) (j : Fin 129), M k i.val j.val = tab (STEP^[k] (entryContents preI m c)) (ix3 b i j) := fun k i j => dif_pos ⟨i.isLt, j.isLt⟩
  rw [← hM]
  refine sweep_iter M (fun j hj => ?_) (fun k i j hi hj => ?_) (by norm_num) i.val j.val i.isLt j.isLt
  · exact (hM 0 0 ⟨j, hj⟩).trans ((entry_tab m c b ⟨j, hj⟩).trans rfl)
  · have hw : ∀ (i : Fin 256) (j : Fin 128), wts (STEP^[k] (entryContents preI m c)) (ix3 b i j) = wt (arg m c) b i.val j.val := fun i j => by
      rw [wts_iter, entry_wts, wt_of_lt]; rfl
    have e := step_apply (STEP^[k] (entryContents preI m c)) b ⟨i, hi⟩ ⟨j, hj⟩
    rw [← Function.iterate_succ_apply' STEP k, ← hM] at e
    refine e.trans ?_
    by_cases h : i = 0 ∨ j = 0
    · rw [dif_pos h, if_pos h]
      match i, j, h with
      | 0, j, _ => exact (if_congr (by simp) rfl rfl).trans rfl
      | i + 1, 0, _ => rw [if_neg (by simp), T_succ_zero]
      | i + 1, j + 1, h => omega
    · rw [dif_neg h, if_neg h, hw, ← hM, ← hM]

end Cert.ReferenceIdeal.Hand

end
-- ==== Proof.lean ====
/-
  The claims, put together.

  * Frames: each of the three programs terminates from any memory, leaves its argument as it was, and ends with every semaphore
    counter at zero (Proof/Bits/Launch.lean, Proof/Point.lean, the reference's generated run).
  * `preserves`: the three named constants are what their names say.
  * `algebraic`: over the extended reals both programs end with the same 64 tables of the recurrence `Cert.Spec.T` over 1.5 times
    the argument (Proof/Point.lean for the kernel, Proof/RefValue.lean for the reference).
-/
module

public import proofs.«01_k».proof.Defs
public import proofs.«01_k».proof.Proof.Bits.Launch
public import proofs.«01_k».proof.Proof.Point
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open Cert.KernelIdeal.Hand (Inv Rl step table final_v0 final_arg0 run_main arg)

/-- The kernel's run over the extended reals: the tables, the argument unchanged, the counters at zero. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v0) = table (arg m c)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run (Cert.KernelIdeal.defs (F := Ideal)) _ _).mono
    (fun r h => ⟨fun c => ⟨final_v0 h.1 c, final_arg0 h.1 c⟩, h.2⟩) (run_main g (step m))

/-- The reference's result is the same tables. -/
theorem reference_table (m : (ℓ : Loc Cert.ReferenceIdeal.nD Cert.ReferenceIdeal.τ Cert.ReferenceIdeal.sig) → Buf (Elt Ideal) ℓ)
    (c : Dev Cert.ReferenceIdeal.nD) :
    Cert.ReferenceIdeal.Hand.tab (Cert.ReferenceIdeal.Value.STEP^[383] (StableHlo.entryContents Cert.ReferenceIdeal.Value.preI m c))
      = table (Cert.ReferenceIdeal.Hand.arg m c) := funext fun y => by
  obtain ⟨b, i, j, rfl⟩ : ∃ (b : Fin 64) (i : Fin 257) (j : Fin 129), y = ix3 b i j := ⟨y 0, y 1, y 2, eq_ix3 y⟩
  exact Cert.ReferenceIdeal.Hand.result_apply m c b i j

theorem preserves : Cert.preserves_Kernel_KernelIdeal :=
  ⟨IdealRules.named_const.statement _ _ _ _ _ rfl, IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts, by
  refine ⟨fun m g _ => Cert.Kernel.Hand.frame m g, fun m g _ => ?_, fun m g _ => ?_, preserves, fun m g m' g' _ hagree => ?_⟩
  · exact (θ_run (Cert.KernelIdeal.defs (F := Ideal)) _ _).mono (fun r h => ⟨fun c => (h.1 c).2, h.2⟩) (kernel_run m g)
  · exact (θ_run (Cert.ReferenceIdeal.defs (F := Ideal)) _ _).mono
      (fun r h => ⟨fun c => (h c).2, sem_eq_zero_of_no_sems (by decide) r.2⟩) (Cert.ReferenceIdeal.Value.run (F := Ideal) m g)
  · refine ⟨fun c => table (arg m c),
      (θ_run (Cert.KernelIdeal.defs (F := Ideal)) _ _).mono (fun r h => h.1) (kernel_run m g),
      (θ_run (Cert.ReferenceIdeal.defs (F := Ideal)) _ _).mono (fun r h c => ⟨?_, (h c).2⟩) (Cert.ReferenceIdeal.Value.run (F := Ideal) m' g')⟩
    exact (h c).1.trans ((reference_table m' c).trans (congrArg table (hagree c)))⟩

end Cert.Proof

end
